-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S4x128x512 : Shape := ⟨3, ![4, 128, 512]⟩
abbrev S4 : Shape := ⟨1, ![4]⟩
abbrev S_ : Shape := ⟨0, ![]⟩
abbrev S128x512 : Shape := ⟨2, ![128, 512]⟩
abbrev S128x1024 : Shape := ⟨2, ![128, 1024]⟩
abbrev S1x128x512 : Shape := ⟨3, ![1, 128, 512]⟩
abbrev S1 : Shape := ⟨1, ![1]⟩

abbrev nBuf : Space → Nat
  | .hbm => 4
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S1024x512, .f32⟩
  | .hbm, ⟨3, _⟩ => ⟨S512x512, .f32⟩
  | .local _ .vmem, ⟨0, _⟩ => ⟨S512x512, .f32⟩
  | .local _ .vmem, ⟨1, _⟩ => ⟨S512x1024, .f32⟩
  | .local _ .vmem, ⟨2, _⟩ => ⟨S1024x512, .f32⟩
  | .local _ .vmem, ⟨3, _⟩ => ⟨S512x512, .f32⟩
  | .local _ .vmem, ⟨4, _⟩ => ⟨S512x512, .bf16⟩
  | .local _ .vmem, ⟨5, _⟩ => ⟨S512x1024, .bf16⟩
  | .local _ .vmem, ⟨6, _⟩ => ⟨S1024x512, .bf16⟩
  | .local _ .vmem, ⟨7, _⟩ => ⟨S4x128x512, .f32⟩
  | .local _ .vmem, ⟨8, _⟩ => ⟨S4x128x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_35 : BitVec 32 := 1#32
  let v43 : BitVec 32 := Scalar.muli v3 c1_i32_35
  let v44 : BitVec 32 := Scalar.addi c0_i32_36 v43
  v44.toNat
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_58 : BitVec 32 := 1#32
  let v68 : BitVec 32 := Scalar.muli v3 c1_i32_58
  let v69 : BitVec 32 := Scalar.addi c0_i32_59 v68
  v69.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_81 : BitVec 32 := 1#32
  let v93 : BitVec 32 := Scalar.muli v3 c1_i32_81
  let v94 : BitVec 32 := Scalar.addi c0_i32_82 v93
  v94.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_104 : BitVec 32 := 1#32
  let v118 : BitVec 32 := Scalar.muli v3 c1_i32_104
  let v119 : BitVec 32 := Scalar.addi c0_i32_105 v118
  v119.toNat
def k0_dev7 (d0 : Dev nD) : Nat :=
  let c0_i32_134 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_133 : BitVec 32 := 1#32
  let v146 : BitVec 32 := Scalar.muli v4 c1_i32_133
  let v147 : BitVec 32 := Scalar.addi c0_i32_134 v146
  v147.toNat
def k0_dev8 (d0 : Dev nD) : Nat :=
  let c0_i32_163 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_162 : BitVec 32 := 1#32
  let v174 : BitVec 32 := Scalar.muli v4 c1_i32_162
  let v175 : BitVec 32 := Scalar.addi c0_i32_163 v174
  v175.toNat
def k0_dev9 (d0 : Dev nD) : Nat :=
  let c0_i32_213 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_212 : BitVec 32 := 1#32
  let v221 : BitVec 32 := Scalar.muli v4 c1_i32_212
  let v222 : BitVec 32 := Scalar.addi c0_i32_213 v221
  v222.toNat
def k0_dev10 (d0 : Dev nD) : Nat :=
  let c0_i32_263 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_262 : BitVec 32 := 1#32
  let v268 : BitVec 32 := Scalar.muli v4 c1_i32_262
  let v269 : BitVec 32 := Scalar.addi c0_i32_263 v268
  v269.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x512 : Shape := ⟨2, ![512, 512]⟩
abbrev S512x4096 : Shape := ⟨2, ![512, 4096]⟩
abbrev S4096x512 : Shape := ⟨2, ![4096, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S_, .f32⟩
  | .hbm, ⟨5, _⟩ => ⟨S512x4096, .f32⟩
  | .hbm, ⟨6, _⟩ => ⟨S512x4096, .f32⟩
  | .hbm, ⟨7, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.KernelIdealProg.lean ====
/- The kernel's body as a sequence of named pieces. Every piece is one of a few programs at a block
   `b` of four: the rows' partial product, the copy to the first partner, the sum with what came
   from it, the copy to the second partner, the rows' result, and the waits. The printed body is
   that sequence by computation. -/
module

public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-! ## The memrefs -/

/-- The staged `x`, -/
abbrev xM : Memref sig .tc .vmem S512x512 .f32 := Memref.whole cc0_stg0_0
/-- the staged first weight, -/
abbrev w1M : Memref sig .tc .vmem S512x1024 .f32 := Memref.whole cc0_stg1_0
/-- the staged second weight, -/
abbrev w2M : Memref sig .tc .vmem S1024x512 .f32 := Memref.whole cc0_stg2_0
/-- the staged result; -/
abbrev outM : Memref sig .tc .vmem S512x512 .f32 := Memref.whole cc0_stg3_0
/-- the cast of `x`, -/
abbrev xbM : Memref sig .tc .vmem S512x512 .bf16 := Memref.whole cc0_scratch0
/-- of the first weight -/
abbrev w1bM : Memref sig .tc .vmem S512x1024 .bf16 := Memref.whole cc0_scratch1
/-- and of the second; -/
abbrev w2bM : Memref sig .tc .vmem S1024x512 .bf16 := Memref.whole cc0_scratch2
/-- the partial products; -/
abbrev accM : Memref sig .tc .vmem S4x128x512 .f32 := Memref.whole cc0_scratch3
/-- what is sent on the first leg -/
abbrev sAM : Memref sig .tc .vmem S4x128x512 .bf16 := Memref.whole cc0_scratch4
/-- and on the second; -/
abbrev sBM : Memref sig .tc .vmem S4x128x512 .bf16 := Memref.whole cc0_scratch5
/-- what lands on the first leg -/
abbrev rAM : Memref sig .tc .vmem S4x128x512 .bf16 := Memref.whole cc0_scratch6
/-- and on the second. -/
abbrev rBM : Memref sig .tc .vmem S4x128x512 .bf16 := Memref.whole cc0_scratch7

/-- The barrier semaphore. -/
abbrev barS : Sem sig := (SemArray.scalar (sig.barrier 0 rfl) : Sems sig S_).sem

/-! ## The rectangles of block `b` -/

/-- Block `b`'s rows are within the array, -/
theorem inb_rows (b : Fin 4) : ∀ a, (![128 * b.val, 0] : Fin 2 → Nat) a + S128x512.size a ≤ S512x512.size a := by
  revert b; decide
/-- its slot within a buffer of four, -/
theorem inb_slot (b : Fin 4) : ∀ a, (![b.val, 0, 0] : Fin 3 → Nat) a + S1x128x512.size a ≤ S4x128x512.size a := by
  revert b; decide
/-- and its semaphore within four. -/
theorem inb_sem (b : Fin 4) : ∀ a, (![b.val] : Fin 1 → Nat) a + S1.size a ≤ S4.size a := by
  revert b; decide

/-- Rows `128 b … 128 b + 127` of a 512×512 array. -/
abbrev rowsR (b : Fin 4) : Rect S512x512 := Rect.unit (s := S512x512) ![128 * b.val, 0] S128x512.size (inb_rows b)
/-- Slot `b` of a 4×128×512 buffer. -/
abbrev slotR (b : Fin 4) : Rect S4x128x512 := Rect.unit (s := S4x128x512) ![b.val, 0, 0] S1x128x512.size (inb_slot b)

/-- A slot of packed elements is whole packed rows -/
theorem packed_slot (b : Fin 4) : (slotR b).PackedRows (EltTy.packing .bf16) :=
  match b with
  | 0 => packedbf16_S4x128x512_S1x128x512_0_0_0
  | 1 => packedbf16_S4x128x512_S1x128x512_1_0_0
  | 2 => packedbf16_S4x128x512_S1x128x512_2_0_0
  | 3 => packedbf16_S4x128x512_S1x128x512_3_0_0
/-- and whole words, -/
theorem words_slot (b : Fin 4) : (slotR b).WholeWords (EltTy.packing .bf16) :=
  match b with
  | 0 => wordsbf16_S4x128x512_S1x128x512_0_0_0
  | 1 => wordsbf16_S4x128x512_S1x128x512_1_0_0
  | 2 => wordsbf16_S4x128x512_S1x128x512_2_0_0
  | 3 => wordsbf16_S4x128x512_S1x128x512_3_0_0

/-- Slot `b` of a buffer as the 128×512 array it holds. -/
abbrev slot {e : EltTy} (m : Memref sig .tc .vmem S4x128x512 e) (b : Fin 4) : Memref sig .tc .vmem S128x512 e :=
  (m.slice (slotR b) (fun _ => rfl)).squeeze S128x512 squeezes_S1x128x512_S128x512
/-- Semaphore `b` of an array of four. -/
abbrev semAt (a : DmaSems sig S4) (b : Fin 4) : DmaSem sig :=
  ((a.slice (Rect.unit (s := S4) ![b.val] S1.size (inb_sem b))).squeeze S_ squeezes_S1_S_).sem

/-- so its view is exact to the word. -/
theorem slot_exact {m : Memref sig .tc .vmem S4x128x512 .bf16} (h : m.IsWhole) (b : Fin 4) : (slot m b).view.WordExact :=
  (h.wordExact_slice rfl _ (words_slot b)).reshape _ _

/-! ## The values -/

/-- The cast of `x`, -/
def castX (v : Vec F S512x512 .f32) : FVec F S512x512 .bf16 :=
  shapeCast S512x512 (truncf .bf16 (shapeCast S512x512 v shapeCasts_S512x512_S512x512 : FVec F S512x512 .f32) bitsLt_bf16_f32) shapeCasts_S512x512_S512x512
/-- of the first weight -/
def castW1 (v : Vec F S512x1024 .f32) : FVec F S512x1024 .bf16 :=
  shapeCast S512x1024 (truncf .bf16 (shapeCast S512x1024 v shapeCasts_S512x1024_S512x1024 : FVec F S512x1024 .f32) bitsLt_bf16_f32) shapeCasts_S512x1024_S512x1024
/-- and of the second. -/
def castW2 (v : Vec F S1024x512 .f32) : FVec F S1024x512 .bf16 :=
  shapeCast S1024x512 (truncf .bf16 (shapeCast S1024x512 v shapeCasts_S1024x512_S1024x512 : FVec F S1024x512 .f32) bitsLt_bf16_f32) shapeCasts_S1024x512_S1024x512

/-- The rows' partial product: `relu (xr @ w1) @ w2`. -/
def part (xr : Vec F S128x512 .bf16) (w1 : Vec F S512x1024 .bf16) (w2 : Vec F S1024x512 .bf16) : FVec F S128x512 .f32 :=
  matmul dot_S128x1024_S1024x512_S128x512_1_0_0_1_n_n none
    (truncf .bf16 (maximumf (matmul dot_S128x512_S512x1024_S128x1024_1_0_0_1_n_n none xr w1 (constant S128x1024 .f32 0x00000000#32))
      (broadcast S128x1024 (Scalar.ofBits .f32 0x00000000#32))) bitsLt_bf16_f32)
    w2 (constant S128x512 .f32 0x00000000#32)
/-- An array rounded for sending. -/
def narrow (v : FVec F S128x512 .f32) : FVec F S128x512 .bf16 := truncf .bf16 v bitsLt_bf16_f32
/-- The partial product with a received one added. -/
def plus (v : FVec F S128x512 .f32) (r : FVec F S128x512 .bf16) : FVec F S128x512 .f32 := addf v (extf .f32 r bitsLt_bf16_f32)
/-- A 128×512 array as one slot, and back. -/
def up {α : Type} (v : S128x512.Idx → α) : S1x128x512.Idx → α := shapeCast S1x128x512 v shapeCasts_S128x512_S1x128x512
/-- A slot as a 128×512 array. -/
def down {α : Type} (v : S1x128x512.Idx → α) : S128x512.Idx → α := shapeCast S128x512 v shapeCasts_S1x128x512_S128x512

/-! ## The two legs

Each block is exchanged twice, with a first partner and then with a second. A leg has a buffer it is
sent from, a buffer it lands in, and a semaphore for each block at either end. -/

/-- The buffer a leg's blocks are sent from. -/
abbrev sbuf (l : Bool) : Memref sig .tc .vmem S4x128x512 .bf16 := match l with | false => sAM | true => sBM
/-- The buffer a leg's blocks land in. -/
abbrev rbuf (l : Bool) : Memref sig .tc .vmem S4x128x512 .bf16 := match l with | false => rAM | true => rBM
/-- The semaphores a leg's copies raise on the sender. -/
abbrev ssem (l : Bool) : DmaSems sig S4 := match l with | false => cc0_scratch8 | true => cc0_scratch10
/-- The semaphores a leg's copies raise on the receiver. -/
abbrev rsem (l : Bool) : DmaSems sig S4 := match l with | false => cc0_scratch9 | true => cc0_scratch11

/-- The buffer sent from is a whole one, -/
theorem sbuf_whole (l : Bool) : (sbuf l).IsWhole := match l with
  | false => Memref.isWhole_whole _
  | true => Memref.isWhole_whole _
/-- and so is the one landed in. -/
theorem rbuf_whole (l : Bool) : (rbuf l).IsWhole := match l with
  | false => Memref.isWhole_whole _
  | true => Memref.isWhole_whole _

/-! ## The pieces -/

/-- A program of the kernel. -/
abbrev K (F : FTy → Type) [FloatOps F] (α : Type) := Prog (TpuEff nD τ sig (Elt F) Λ₀ .tc) α

/-- The three casts into scratch. -/
def casts : K F PUnit := do
  let v ← Prog.lift (.load xM (Rect.unit (s := S512x512) ![0, 0] S512x512.size inb_S512x512_S512x512_0_0).toLoadRect (View.loadsAt_vmem h_S512x512))
  let _ ← Prog.lift (.load xbM (Rect.unit (s := S512x512) ![0, 0] S512x512.size inb_S512x512_S512x512_0_0).toLoadRect (View.loadsAt_vmem h_S512x512))
  Prog.lift (.store xbM (Rect.unit (s := S512x512) ![0, 0] S512x512.size inb_S512x512_S512x512_0_0) (castX v) Finset.univ
    (View.stores_vmem h_S512x512 ((Memref.isWhole_whole cc0_scratch0).storeExact_slice rfl _ packedbf16_S512x512_S512x512_0_0) (fun _ => rfl)) (.inl rfl))
  let v ← Prog.lift (.load w1M (Rect.unit (s := S512x1024) ![0, 0] S512x1024.size inb_S512x1024_S512x1024_0_0).toLoadRect (View.loadsAt_vmem h_S512x1024))
  let _ ← Prog.lift (.load w1bM (Rect.unit (s := S512x1024) ![0, 0] S512x1024.size inb_S512x1024_S512x1024_0_0).toLoadRect (View.loadsAt_vmem h_S512x1024))
  Prog.lift (.store w1bM (Rect.unit (s := S512x1024) ![0, 0] S512x1024.size inb_S512x1024_S512x1024_0_0) (castW1 v) Finset.univ
    (View.stores_vmem h_S512x1024 ((Memref.isWhole_whole cc0_scratch1).storeExact_slice rfl _ packedbf16_S512x1024_S512x1024_0_0) (fun _ => rfl)) (.inl rfl))
  let v ← Prog.lift (.load w2M (Rect.unit (s := S1024x512) ![0, 0] S1024x512.size inb_S1024x512_S1024x512_0_0).toLoadRect (View.loadsAt_vmem h_S1024x512))
  let _ ← Prog.lift (.load w2bM (Rect.unit (s := S1024x512) ![0, 0] S1024x512.size inb_S1024x512_S1024x512_0_0).toLoadRect (View.loadsAt_vmem h_S1024x512))
  Prog.lift (.store w2bM (Rect.unit (s := S1024x512) ![0, 0] S1024x512.size inb_S1024x512_S1024x512_0_0) (castW2 v) Finset.univ
    (View.stores_vmem h_S1024x512 ((Memref.isWhole_whole cc0_scratch2).storeExact_slice rfl _ packedbf16_S1024x512_S1024x512_0_0) (fun _ => rfl)) (.inl rfl))

/-- Reading one slot. -/
def getSlot {e : EltTy} (m : Memref sig .tc .vmem S4x128x512 e) (b : Fin 4) : K F (Vec F S1x128x512 e) :=
  Prog.lift (.load m (slotR b).toLoadRect (View.loadsAt_vmem h_S1x128x512))
/-- Writing one slot of a buffer of half-width elements. -/
def putSlot (m : Memref sig .tc .vmem S4x128x512 .bf16) (h : m.IsWhole) (b : Fin 4) (v : FVec F S1x128x512 .bf16) : K F PUnit :=
  Prog.lift (.store m (slotR b) v Finset.univ
    (View.stores_vmem h_S1x128x512 (h.storeExact_slice rfl _ (packed_slot b)) (fun _ => rfl)) (.inl rfl))
/-- Writing one slot of the partial products. -/
def putAcc (b : Fin 4) (v : FVec F S1x128x512 .f32) : K F PUnit :=
  Prog.lift (.store accM (slotR b) v Finset.univ (View.stores_vmem_bits_univ h_S1x128x512 rfl) (.inl rfl))

/-- Block `b`'s partial product, kept and rounded for sending. -/
def block (b : Fin 4) : K F PUnit := do
  let xr ← Prog.lift (.load xbM (rowsR b).toLoadRect (View.loadsAt_vmem h_S128x512))
  let w1 ← Prog.lift (.load w1bM (Rect.unit (s := S512x1024) ![0, 0] S512x1024.size inb_S512x1024_S512x1024_0_0).toLoadRect (View.loadsAt_vmem h_S512x1024))
  let w2 ← Prog.lift (.load w2bM (Rect.unit (s := S1024x512) ![0, 0] S1024x512.size inb_S1024x512_S1024x512_0_0).toLoadRect (View.loadsAt_vmem h_S1024x512))
  let _ ← getSlot accM b
  putAcc b (up (part xr w1 w2))
  let _ ← getSlot sAM b
  putSlot sAM (Memref.isWhole_whole _) b (up (narrow (part xr w1 w2)))

/-- The device of a leg's partner as the kernel computes it. -/
abbrev dest (l : Bool) (d : Dev nD) : Dev nD := match l with
  | false => ⟨k0_dev1 d, k0_dev1_lt d⟩
  | true => ⟨k0_dev2 d, k0_dev2_lt d⟩

/-- The copy of block `b` to a leg's partner. -/
def send (l : Bool) (d : Dev nD) (b : Fin 4) : K F PUnit :=
  Prog.lift (.enqueueDma (slot (sbuf l) b) (.remote (Dev.tc (dest l d)) (slot (rbuf l) b) (.dma (semAt (ssem l) b)) (by cases l <;> rfl))
    (.dma (semAt (rsem l) b)) (slot_exact (sbuf_whole l) b) (slot_exact (rbuf_whole l) b) ⟨⟨rfl, Or.inl rfl⟩, trivial⟩)
/-- The wait for block `b` of a leg to land. -/
def recv (l : Bool) (b : Fin 4) : K F PUnit :=
  Prog.lift (.waitDma2 (semAt (rsem l) b) (slot (sbuf l) b) (slot (rbuf l) b) (slot_exact (sbuf_whole l) b) (slot_exact (rbuf_whole l) b))
/-- The wait for the copy of block `b` of a leg to have been read. -/
def done (l : Bool) (b : Fin 4) : K F PUnit :=
  Prog.lift (.waitDma2 (semAt (ssem l) b) (slot (rbuf l) b) (slot (sbuf l) b) (slot_exact (rbuf_whole l) b) (slot_exact (sbuf_whole l) b))

/-- The sum of the block's own partial product and the first partner's, rounded for sending. -/
def mid (b : Fin 4) : K F PUnit := do
  let a ← getSlot accM b
  let r ← getSlot rAM b
  let _ ← getSlot sBM b
  putSlot sBM (Memref.isWhole_whole _) b (up (narrow (plus (down a) (down r))))

/-- The rows' result: the own partial product, the first partner's, and the second partner's sum. -/
def out (b : Fin 4) : K F PUnit := do
  let a ← getSlot accM b
  let r ← getSlot rAM b
  let t ← getSlot rBM b
  let _ ← Prog.lift (.load outM (rowsR b).toLoadRect (View.loadsAt_vmem h_S128x512))
  Prog.lift (.store outM (rowsR b) (plus (plus (down a) (down r)) (down t)) Finset.univ (View.stores_vmem_bits_univ h_S128x512 rfl) (.inl rfl))

/-- What follows the two signals, on the device `d`. -/
def rest (d : Dev nD) : K F PUnit := do
  casts
  block 0
  semWaitWord barS 2#32
  send false d 0
  block 1; send false d 1
  block 2; send false d 2
  block 3; send false d 3
  recv false 0; mid 0; send true d 0
  recv false 1; mid 1; send true d 1; recv true 0; out 0
  recv false 2; mid 2; send true d 2; recv true 1; out 1
  recv false 3; mid 3; send true d 3; recv true 2; out 2
  recv true 3; out 3
  done false 0; done true 0
  done false 1; done true 1
  done false 2; done true 2
  done false 3; done true 3

/-- The body in pieces. -/
def body : K F PUnit := do
  let d ← Prog.lift .deviceId
  semSignalWord (dest false d) barS 1#32
  semSignalWord (dest true d) barS 1#32
  rest d

/-- The printed body at the launch's memrefs. -/
abbrev printed : K F PUnit :=
  cc0_body xM (Memref.isWhole_whole _) w1M (Memref.isWhole_whole _) w2M (Memref.isWhole_whole _) outM (Memref.isWhole_whole _)
    xbM (Memref.isWhole_whole _) w1bM (Memref.isWhole_whole _) w2bM (Memref.isWhole_whole _) accM (Memref.isWhole_whole _)
    sAM (Memref.isWhole_whole _) sBM (Memref.isWhole_whole _) rAM (Memref.isWhole_whole _) rBM (Memref.isWhole_whole _)
    cc0_scratch8 cc0_scratch9 cc0_scratch10 cc0_scratch11

set_option maxRecDepth 65536 in
/-- The printed body is the sequence of pieces. -/
theorem printed_eq : printed (F := F) = body (F := F) := by
  unfold printed
  rw [cc0_body_eq_skeleton]
  rfl

end Cert.KernelIdealProof

end
-- ==== Proof.KernelIdealProto.lean ====
/- The exchange between the devices: who pairs with whom on each leg, what every buffer's block holds,
   and the schedule of what each semaphore's raise hands over. -/
module

public import proofs.«01_k».proof.Proof.KernelIdealProg
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The schedule's ghost state, -/
abbrev UB : Type := URounds (GSem nD τ sig) Bool
/-- beside the pipeline's. -/
abbrev UU : Type := UR sig nD τ × UB

local notation "𝕄" => MT nD τ sig Unit (Elt F) ℕ UU ℕ

/-- The pipeline's part of it, -/
abbrev EP : Emb (UR sig nD τ) (MT nD τ sig Unit (Elt F) ℕ UU ℕ) := embL
/-- and the schedule's. -/
abbrev ER : Emb UB (MT nD τ sig Unit (Elt F) ℕ UU ℕ) := embR

/-! ## The partners -/

set_option backward.proofsInPublic true in
/-- A device's partner on a leg: on the first, the other of its pair `{0, 1}` or `{2, 3}`; on the
    second, the one opposite, `3 - c`. -/
def peer (l : Bool) (c : Dev nD) : Dev nD :=
  ⟨(match l with | false => c.val + 1 + 2 * (c.val % 2) | true => 3 - c.val) % 4, Nat.mod_lt _ (by decide)⟩

/-- Partnership is mutual. -/
theorem peer_peer (l : Bool) (c : Dev nD) : peer l (peer l c) = c := by revert l c; decide
/-- The partner a device's program computes. -/
theorem dest_eq (l : Bool) (c : Dev nD) : dest l c = peer l c := by revert l c; decide

/-- Going to the partner, as a permutation of the devices. -/
def pairing (l : Bool) : Dev nD ≃ Dev nD := ⟨peer l, peer l, peer_peer l, peer_peer l⟩

/-! ## The cells -/

/-- A copy's semaphore: the leg, whether it is the receiver's, and the block. -/
abbrev J : Type := Bool × Bool × Fin 4

/-- The semaphore. -/
abbrev xsem (j : J) : DmaSem sig := semAt (match j.2.1 with | false => ssem j.1 | true => rsem j.1) j.2.2
/-- Which copy a semaphore serves. -/
def code (q : DmaSem sig) : J := (decide (12 ≤ q.val), decide (q.val / 4 % 2 = 0), ⟨q.val % 4, Nat.mod_lt _ (by decide)⟩)

/-- A semaphore tells its copy. -/
theorem code_xsem (j : J) : code (xsem j) = j := by revert j; decide
/-- The first four semaphores are the windows'. -/
theorem xsem_ge (j : J) : 4 ≤ (xsem j).val := by revert j; decide

/-- A device's barrier cell. -/
abbrev barCell (c : Dev nD) : GSem nD τ sig := ((c : Thread nD τ), .reg barS)
/-- A device's cell for a copy. -/
abbrev xcell (c : Dev nD) (j : J) : GSem nD τ sig := ((c : Thread nD τ), .dma (xsem j))

/-- What one copy of a block adds to its semaphores. -/
abbrev N : ℕ := (slot sAM 0).view.dmaCredit
/-- It is positive, -/
theorem N_pos : 0 < N := View.dmaCredit_pos _ (by decide)
/-- the same from every slot sent from -/
theorem credit_sbuf (l : Bool) (b : Fin 4) : (slot (sbuf l) b).view.dmaCredit = N := by cases l <;> rfl
/-- and into every slot landed in. -/
theorem credit_rbuf (l : Bool) (b : Fin 4) : (slot (rbuf l) b).view.dmaCredit = N := by cases l <;> rfl

/-! ## Contents -/

variable (m : (ℓ : Loc nD τ sig) → Buf (Elt F) ℓ)

/-- A device's rows of `x` and its parts of the two weights, as staged. -/
def xstg (c : Dev nD) : (cc0_stg0_0 : Ref sig .tc).ty.Contents (Elt F) :=
  (win0_0.blk (0 : Fin 1)).view.read (Elt F) (m ((c : Thread nD τ).loc main_arg0))
/-- Its part of the first weight, -/
def w1stg (c : Dev nD) : (cc0_stg1_0 : Ref sig .tc).ty.Contents (Elt F) :=
  (win0_1.blk (0 : Fin 1)).view.read (Elt F) (m ((c : Thread nD τ).loc main_arg1))
/-- and of the second. -/
def w2stg (c : Dev nD) : (cc0_stg2_0 : Ref sig .tc).ty.Contents (Elt F) :=
  (win0_2.blk (0 : Fin 1)).view.read (Elt F) (m ((c : Thread nD τ).loc main_arg2))

/-- Device `c`'s partial product of the rows of block `b`. -/
def own (c : Dev nD) (b : Fin 4) : FVec F S128x512 .f32 :=
  part (fun j => castX (xstg m c) ((rowsR b).emb j)) (castW1 (w1stg m c)) (castW2 (w2stg m c))
/-- That with the first partner's added. -/
def pair (c : Dev nD) (b : Fin 4) : FVec F S128x512 .f32 := plus (own m c b) (narrow (own m (peer false c) b))
/-- What device `c` sends on a leg. -/
def val (l : Bool) (c : Dev nD) (b : Fin 4) : FVec F S128x512 .bf16 := match l with
  | false => narrow (own m c b)
  | true => narrow (pair m c b)
/-- Device `c`'s result on the rows of block `b`. -/
def res (c : Dev nD) (b : Fin 4) : FVec F S128x512 .f32 := plus (pair m c b) (val m true (peer true c) b)

/-! ## A block's slot of a buffer -/

/-- Device `c` holds slot `b` of a buffer at contents `Y`. -/
abbrev slotOwn (c : Dev nD) {e : EltTy} (M : Memref sig .tc .vmem S4x128x512 e) (b : Fin 4) (Y : S128x512.Idx → Elt F e) : sProp 𝕄 :=
  ownsTc c (slot M b) fullShare Y
/-- At some contents. -/
abbrev slotAny (c : Dev nD) {e : EltTy} (M : Memref sig .tc .vmem S4x128x512 e) (b : Fin 4) : sProp 𝕄 :=
  iprop(∃ Y, slotOwn (F := F) c M b Y)

/-! ## The schedule -/

/-- What a partner's signal hands device `c`: the partner's landing slots for the leg's copies. -/
def barPay (c : Dev nD) (l : Bool) : sProp 𝕄 := bigSep Finset.univ fun b : Fin 4 => slotAny (peer l c) (rbuf l) b
/-- What the end of a copy hands device `c`: on the sender the slot it read, on the receiver the slot it
    wrote, holding what the partner sent. -/
def xPay (c : Dev nD) (j : J) : sProp 𝕄 := match j.2.1 with
  | false => slotOwn c (sbuf j.1) j.2.2 (val m j.1 c j.2.2)
  | true => slotOwn c (rbuf j.1) j.2.2 (val m j.1 (peer j.1 c) j.2.2)

/-- Such a payload can be kept in a cell, -/
instance barPay_storable (c : Dev nD) (l : Bool) : BI.Storable (upEmb : UEmb _ 𝕄) (barPay (F := F) c l) := by
  unfold barPay; infer_instance
/-- and such a one, -/
instance xPay_storable (c : Dev nD) (j : J) : BI.Storable (upEmb : UEmb _ 𝕄) (xPay m c j) := by
  unfold xPay; split <;> infer_instance

/-- One round. A barrier cell has a unit from either partner; a copy's cell the copy's credit. -/
def Rd : Rounds.Schedule (GSem nD τ sig) Bool 𝕄 where
  duties g r := if r = 0 ∧ g.1.2 = .tc then
      (match g.2 with | .reg _ => Finset.univ | .dma q => if 4 ≤ q.val then {false} else ∅) else ∅
  unitless _ := False
  amount g _ _ := match g.2 with | .reg _ => 1 | .dma _ => N
  payload g _ d := match g.2 with | .reg _ => barPay g.1.1 d | .dma q => xPay m g.1.1 (code q)
  amount_pos g _ _ _ := by
    rcases g with ⟨c, s | q⟩
    · exact Nat.one_pos
    · exact N_pos

/-- and so every one of the schedule. -/
instance Rd_storable (g : GSem nD τ sig) (r : ℕ) (d : Bool) : BI.Storable (upEmb : UEmb _ 𝕄) ((Rd (F := F) m).payload g r d) := by
  rcases g with ⟨c, s | q⟩
  · exact barPay_storable c.1 d
  · exact xPay_storable m c.1 (code q)

section Sched
variable (c : Dev nD) (j : J)

/-- A barrier cell's duties are the two legs'. -/
theorem duties_bar : (Rd (F := F) m).duties (barCell c) 0 = Finset.univ := by
  dsimp only [Rd]; exact if_pos ⟨rfl, rfl⟩
/-- A copy's cell has one duty. -/
theorem duties_x : (Rd (F := F) m).duties (xcell c j) 0 = {false} := by
  dsimp only [Rd]; rw [if_pos ⟨rfl, rfl⟩]; exact if_pos (xsem_ge j)
/-- There is one round only. -/
theorem duties_later (g : GSem nD τ sig) : ∀ r, 1 ≤ r → (Rd (F := F) m).duties g r = ∅ :=
  fun r hr => if_neg fun h => by omega
/-- What a copy's cell hands over. -/
theorem payload_x (d : Bool) : (Rd (F := F) m).payload (xcell c j) 0 d = xPay m c j := by
  show xPay m c (code (xsem j)) = _; rw [code_xsem]
/-- A barrier cell awaits two units, -/
theorem expect_bar : (Rd (F := F) m).expect (barCell c) 0 = 2 := by
  unfold Schedule.expect Schedule.amountOf; rw [duties_bar]; rfl
/-- a copy's cell the copy's credit. -/
theorem expect_x : (Rd (F := F) m).expect (xcell c j) 0 = N := by
  unfold Schedule.expect Schedule.amountOf; rw [duties_x, Finset.sum_singleton]; rfl
/-- All that a barrier cell's round hands over. -/
theorem rest_bar : bigSep ((Rd (F := F) m).duties (barCell c) 0 \ ∅) (fun d => (Rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
/-- All that a copy's cell's round hands over. -/
theorem rest_x : bigSep ((Rd (F := F) m).duties (xcell c j) 0 \ ∅) (fun d => (Rd (F := F) m).payload (xcell c j) 0 d) = xPay m c j := by
  rw [Finset.sdiff_empty, duties_x, bigSep_singleton, payload_x]

end Sched

/-! ## Debts and levels -/

/-- What a device owes: to its partner on a leg, a unit on its barrier (`none`) or a block's copy. -/
abbrev Debt : Type := Bool × Option (Fin 4)

/-- The cell at device `c` that such a debt is paid at, -/
abbrev debtAt (c : Dev nD) (j : Debt) : GSem nD τ sig := match j.2 with
  | none => barCell c
  | some b => xcell c (j.1, true, b)
/-- its amount, -/
def amt (j : Debt) : ℕ := match j.2 with | none => 1 | some _ => N
/-- and its level. -/
def level (j : Debt) : ℕ := match j.2 with | none => 1 | some b => if j.1 then 3 + b.val else 2

/-- What device `c` owes, of a list of debts; the head is the one to be paid first. -/
def owed (c : Dev nD) : List Debt → CellTallies nD τ sig Unit
  | [] => 0
  | j :: js => owed c js + tallyAt (debtAt (peer j.1 c) j) () (amt j)

/-- The copies of the second leg, of both, and all debts, in the order they are paid. -/
def debtsB : List Debt := [(true, some 0), (true, some 1), (true, some 2), (true, some 3)]
/-- With those of the first leg's copies, -/
def debtsX : List Debt := (false, some 0) :: (false, some 1) :: (false, some 2) :: (false, some 3) :: debtsB
/-- and of the barrier's signals, at the start. -/
def debts : List Debt := (false, none) :: (true, none) :: debtsX

/-- A TensorCore's cells have the one level. -/
def L (g : GSem nD τ sig) : Finset Unit := if g.1.2 = .tc then {()} else ∅
/-- The barrier at 1, the first leg's arrivals at 2, the second's at 3 and up, everything else at 0. -/
def lv (g : GSem nD τ sig) (_ : Unit) : ℕ := match g.2 with
  | .reg _ => 1
  | .dma q => if q.val < 8 then 0 else if q.val < 12 then 2 else if q.val < 16 then 0 else q.val - 13

/-- No other has, -/
theorem L_of_ne (g : GSem nD τ sig) (h : g.1.2 ≠ .tc) : L g = ∅ := if_neg h
/-- and those have. -/
theorem L_tc (c : Dev nD) (sm : SemLoc sig) : L ((c : Thread nD τ), sm) = {()} := if_pos rfl
/-- A debt's cell is at the debt's level. -/
theorem lv_debt (c : Dev nD) (j : Debt) : lv (debtAt c j) () = level j := by
  obtain ⟨l, o⟩ := j
  cases o with
  | none => rfl
  | some b => show lv (xcell 0 (l, true, b)) () = _; revert l b; decide

/-- A positive debt is one of the list's. -/
theorem owed_pos {c : Dev nD} {js : List Debt} {g : GSem nD τ sig} {u : Unit} (h : 0 < owed c js g u) :
    ∃ j ∈ js, g = debtAt (peer j.1 c) j := by
  induction js with
  | nil => exact absurd h (Nat.lt_irrefl 0)
  | cons j js ih =>
    unfold owed at h
    rw [Pi.add_apply, Finsupp.add_apply, tallyAt_apply] at h
    by_cases hg : g = debtAt (peer j.1 c) j
    · exact ⟨j, List.mem_cons_self, hg⟩
    · rw [if_neg (fun h' => hg h'.1), Nat.add_zero] at h
      obtain ⟨j', hj', e⟩ := ih h
      exact ⟨j', List.mem_cons_of_mem _ hj', e⟩

/-- A device may wait on a cell of a level below all it owes. -/
theorem mayWait (c : Dev nD) (sm : SemLoc sig) (js : List Debt) (n : ℕ) (hn : lv ((c : Thread nD τ), sm) () ≤ n)
    (h : ∀ j ∈ js, n < level j) : (levAts L lv : sProp 𝕄) ⊢ MayWait (c : Thread nD τ) sm () (owed c js) :=
  MayOwe.of_cut (L := L) (lev := lv) n (fun p hp => by rw [Finset.mem_singleton.mp hp, L_tc]; exact Finset.mem_singleton_self _)
    (fun g u hg => by
      obtain ⟨j, -, rfl⟩ := owed_pos hg
      have : L (debtAt (peer j.1 c) j) = {()} := by unfold debtAt; split <;> exact L_tc _ _
      rw [this]; exact Finset.mem_singleton_self _)
    (fun p hp => by rw [Finset.mem_singleton.mp hp]; exact hn)
    (fun g u hg => by
      obtain ⟨j, hj, rfl⟩ := owed_pos hg
      rw [show lv (debtAt (peer j.1 c) j) u = level j from lv_debt _ j]; exact h j hj)

/-! ## The cells' invariants and marks, of all devices -/

/-- A device's cells: the barrier, and the copies'. -/
abbrev kcell (ck : Dev nD × Option J) : GSem nD τ sig := match ck.2 with
  | none => barCell ck.1
  | some j => xcell ck.1 j

/-- Every cell's invariant at its name, and that it has reached its round. -/
def records (κs : Dev nD × Option J → ℕ) : sProp 𝕄 :=
  iprop((bigSep Finset.univ fun ck : Dev nD × Option J => cellInv ER (Rd m) (κs ck) (kcell ck))
    ∗ bigSep Finset.univ fun ck : Dev nD × Option J => reached ER (kcell ck) 0)

/-- The records may be used again and again. -/
instance records_persistent (κs : Dev nD × Option J → ℕ) : BI.Persistent (records m κs) := by unfold records; infer_instance

/-- They give each cell's invariant, -/
theorem records_inv (κs : Dev nD × Option J → ℕ) (ck : Dev nD × Option J) :
    records m κs ⊢ (cellInv ER (Rd m) (κs ck) (kcell ck) : sProp 𝕄) := by
  unfold records
  iintro ⟨#H, -⟩
  iapply (show (bigSep Finset.univ fun ck : Dev nD × Option J => (cellInv ER (Rd m) (κs ck) (kcell ck) : sProp 𝕄))
    ⊢ cellInv ER (Rd m) (κs ck) (kcell ck) from bigSep_elim (Finset.mem_univ ck))
  iexact H
/-- and that each has reached its first round. -/
theorem records_reached (κs : Dev nD × Option J → ℕ) (ck : Dev nD × Option J) :
    records m κs ⊢ (reached ER (kcell ck) 0 : sProp 𝕄) := by
  unfold records
  iintro ⟨-, #H⟩
  iapply (show (bigSep Finset.univ fun ck : Dev nD × Option J => (reached ER (kcell ck) 0 : sProp 𝕄))
    ⊢ reached ER (kcell ck) 0 from bigSep_elim (Finset.mem_univ ck))
  iexact H

end Cert.KernelIdealProof

end
-- ==== Proof.KernelIdealSteps.lean ====
/- Every piece of the kernel's body, at a symbolic device and block: what it needs and what it leaves. -/
module

public import proofs.«01_k».proof.Proof.KernelIdealProto

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loops of unknown length. -/
abbrev 𝒱₀ : Variants := Variants.none

/-- Device `c` runs `p` to `Q`. -/
abbrev runs (c : Dev nD) {α : Type} (p : K F α) (Q : α → sProp 𝕄) : sProp 𝕄 :=
  wp frame (wpE (defs₀ (F := F)) 𝒱₀ (c : Thread nD τ) none) Set.univ p Q

/-- A piece before the rest of a program. -/
theorem runs_then (c : Dev nD) {α β : Type} {p : K F α} {k : α → K F β} {P R : sProp 𝕄} {Q : β → sProp 𝕄}
    (h : P ⊢ runs c p fun _ => R) : P ⊢ iprop((∀ a, R -∗ runs c (k a) Q) -∗ runs c (p >>= k) Q) := by
  unfold runs
  rw [wp_bind]
  exact h.trans (wp_wand _ _ _)

/-- Elements held are held under an equal set. -/
theorem pts_set {ℓ : Loc nD τ sig} {S S' : Finset (Idx ℓ)} (h : S = S') (q : PosShare TreeShare) (f : Buf (Elt F) ℓ) :
    (ℓ ↦[S]{q} f : sProp 𝕄) ⊢ ℓ ↦[S']{q} f := by subst h; exact .rfl

/-! ## Loads and stores of held memrefs -/

section Mem
variable (c : Dev nD) {s : Shape} {e : EltTy} (M : Memref sig .tc .vmem s e) (r : Rect s)

/-- A load of a rectangle of a held memref. -/
theorem load_part {hl : M.view.LoadsAt r.toLoadRect} (X : s.Idx → Elt F e) (Q : (r.shape.Idx → Elt F e) → sProp 𝕄) :
    ownsTc c M fullShare X
      ⊢ iprop((ownsTc c M fullShare X -∗ Q fun j => X (r.emb j)) -∗ runs c (Prog.lift (.load M r.toLoadRect hl)) Q) := by
  unfold ownsTc owns runs Prog.lift
  iintro ⟨%f, %hf, H⟩ Hk
  iapply (wp_load_rect 𝒱₀ (c : Thread nD τ) none Set.univ (m := M) (r := r) (View.set_slice_subset _ _)) $$ H
  iintro H
  rw [show (M.access r).read (Elt F) f = fun j => X (r.emb j) from by rw [← hf]; rfl]
  rw [wp_ret]; imodintro
  iapply Hk
  iexists f
  isplitr; · ipureintro; exact hf
  iexact H

/-- A load of a held rectangle of a memref. -/
theorem load_rect (hr : ∀ a, r.stride a = 1) {hl : M.view.LoadsAt r.toLoadRect}
    (X : r.shape.Idx → Elt F e) (Q : (r.shape.Idx → Elt F e) → sProp 𝕄) :
    ownsTc c (M.slice r hr) fullShare X
      ⊢ iprop((ownsTc c (M.slice r hr) fullShare X -∗ Q X) -∗ runs c (Prog.lift (.load M r.toLoadRect hl)) Q) := by
  unfold ownsTc owns runs Prog.lift
  iintro ⟨%f, %hf, H⟩ Hk
  iapply (wp_load_rect 𝒱₀ (c : Thread nD τ) none Set.univ (m := M) (r := r) (le_of_eq rfl)) $$ H
  iintro H
  rw [show (M.access r).read (Elt F) f = X from hf]
  rw [wp_ret]; imodintro
  iapply Hk
  iexists f
  isplitr; · ipureintro; exact hf
  iexact H

/-- A store of a held rectangle of a memref. -/
theorem store_rect (hr : ∀ a, r.stride a = 1) {w : r.shape.Idx → Elt F e} {hx : (M.access r).Stores Finset.univ}
    {hm : (Finset.univ : Finset r.shape.Idx) = Finset.univ ∨ ∀ a, r.stride a = 1} (X : r.shape.Idx → Elt F e) (Q : PUnit → sProp 𝕄) :
    ownsTc c (M.slice r hr) fullShare X
      ⊢ iprop((ownsTc c (M.slice r hr) fullShare w -∗ Q ⟨⟩) -∗ runs c (Prog.lift (.store M r w Finset.univ hx hm)) Q) := by
  unfold ownsTc owns runs Prog.lift
  iintro ⟨%f, %hf, H⟩ Hk
  iapply (wp_store 𝒱₀ (c : Thread nD τ) none Set.univ (m := M) (r := r) (Mk := Finset.univ) (w := w)
    (S := (M.slice r hr).view.set) (by rw [View.setOn_univ])) $$ H
  iintro H
  rw [wp_ret]; imodintro
  iapply Hk
  iexists _
  isplitr; swap; · iexact H
  ipureintro
  exact View.read_write_univ _ _

end Mem

section Whole
variable (c : Dev nD) {s : Shape} {e : EltTy} (M : Memref sig .tc .vmem s e) {off : Fin s.rank → Nat} (hz : off = fun _ => 0)
  (inb : ∀ a, off a + s.size a ≤ s.size a)

include hz
/-- A load of all of a held memref. -/
theorem load_whole {hl : M.view.LoadsAt (Rect.unit off s.size inb).toLoadRect}
    (X : s.Idx → Elt F e) (Q : (s.Idx → Elt F e) → sProp 𝕄) :
    ownsTc c M fullShare X
      ⊢ iprop((ownsTc c M fullShare X -∗ Q X) -∗ runs c (Prog.lift (.load M (Rect.unit off s.size inb).toLoadRect hl)) Q) := by
  subst hz
  have h := load_part c M (Rect.unit (fun _ => 0) s.size inb) (hl := hl) X Q
  rw [show (fun j => X ((Rect.unit (s := s) (fun _ => 0) s.size inb).emb j)) = X from
    funext fun j => congrArg X (Rect.emb_whole_apply s j)] at h
  exact h

/-- A store of all of a held memref. -/
theorem store_whole {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    (X : s.Idx → Elt F e) (Q : PUnit → sProp 𝕄) :
    ownsTc c M fullShare X
      ⊢ iprop((ownsTc c M fullShare w -∗ Q ⟨⟩)
          -∗ runs c (Prog.lift (.store M (Rect.unit off s.size inb) w Finset.univ hx hm)) Q) := by
  subst hz
  unfold ownsTc owns runs Prog.lift
  iintro ⟨%f, %hf, H⟩ Hk
  iapply (wp_store 𝒱₀ (c : Thread nD τ) none Set.univ (m := M)
    (r := Rect.unit (fun _ => 0) s.size inb) (w := w) (Mk := Finset.univ) (S := M.view.set)
    (by rw [View.setOn_univ]; exact View.set_slice_subset _ _)) $$ H
  iintro H
  rw [wp_ret]; imodintro
  iapply Hk
  iexists _
  isplitr; swap; · iexact H
  ipureintro
  funext j
  have h := congrFun (View.read_write_univ (Val := Elt F) (v := M.access (Rect.unit (fun _ => 0) s.size inb)) f w) j
  refine Eq.trans ?_ h
  exact congrArg (M.view.read (Elt F) ((M.access (Rect.unit (fun _ => 0) s.size inb)).write (Elt F) f w Finset.univ)) (Rect.emb_whole_apply s j).symm

end Whole

/-- Both offsets are zero. -/
theorem hz : (![0, 0] : Fin 2 → Nat) = fun _ => 0 := funext fun a => by fin_cases a <;> rfl

/-! ## A slot as a rectangle of its buffer -/

/-- A cast to another shape and back. -/
theorem shapeCast_back {s t : Shape} {α : Type} (v : s.Idx → α) (h : s.ShapeCasts t) (h' : t.ShapeCasts s) :
    shapeCast s (shapeCast t v h) h' = v := by
  funext j
  unfold shapeCast
  rw [Shape.reshapeEquiv_reshapeEquiv, Shape.reshapeEquiv_self]
/-- What a reshaped view reads, cast back, is what the view reads. -/
theorem read_reshape_back {s t : Shape} {e : EltTy} (v : View sig .tc .vmem s e) (h : t.numel = s.numel) (h' : t.ShapeCasts s)
    (f : v.ty.Contents (Elt F)) : shapeCast s ((v.reshape t h).read (Elt F) f) h' = v.read (Elt F) f := by
  funext j
  show v.read (Elt F) f (Shape.reshapeEquiv h (Shape.reshapeEquiv h' j)) = _
  rw [Shape.reshapeEquiv_reshapeEquiv, Shape.reshapeEquiv_self]
/-- What a reshaped view reads is what the view reads, cast. -/
theorem read_reshape {s t : Shape} {e : EltTy} (v : View sig .tc .vmem s e) (h : t.numel = s.numel) (h' : s.ShapeCasts t)
    (f : v.ty.Contents (Elt F)) : (v.reshape t h).read (Elt F) f = shapeCast t (v.read (Elt F) f) h' := rfl

/-- Up to a slot and back. -/
theorem down_up {α : Type} (v : S128x512.Idx → α) : down (up v) = v := shapeCast_back _ _ _

/-- A slot's array, held, is its rectangle of the buffer, held, -/
theorem slot_rect (c : Dev nD) {e : EltTy} (M : Memref sig .tc .vmem S4x128x512 e) (b : Fin 4) (Y : S128x512.Idx → Elt F e) :
    slotOwn c M b Y ⊢ (ownsTc c (M.slice (slotR b) (fun _ => rfl)) fullShare (up Y) : sProp 𝕄) := by
  unfold slotOwn ownsTc owns
  iintro ⟨%f, %hf, H⟩
  iexists f
  isplitr
  · ipureintro; rw [← hf]
    exact (read_reshape_back (M.slice (slotR b) (fun _ => rfl)).view _ _ f).symm
  · iapply (pts_set (ℓ := (M.slice (slotR b) (fun _ => rfl)).view.loc (c : Thread nD τ)) (S := (slot M b).view.set) (View.set_reshape _ _) fullShare f); iexact H
/-- and back. -/
theorem rect_slot (c : Dev nD) {e : EltTy} (M : Memref sig .tc .vmem S4x128x512 e) (b : Fin 4) (X : S1x128x512.Idx → Elt F e) :
    (ownsTc c (M.slice (slotR b) (fun _ => rfl)) fullShare X : sProp 𝕄) ⊢ slotOwn c M b (down X) := by
  unfold slotOwn ownsTc owns
  iintro ⟨%f, %hf, H⟩
  iexists f
  isplitr
  · ipureintro; rw [← hf]
    exact read_reshape (M.slice (slotR b) (fun _ => rfl)).view _ _ f
  · iapply (pts_set (ℓ := (M.slice (slotR b) (fun _ => rfl)).view.loc (c : Thread nD τ)) (S' := (slot M b).view.set) (View.set_reshape _ _).symm fullShare f); iexact H

section Slots
variable (c : Dev nD) (b : Fin 4)

/-- Reading a held slot. -/
theorem get_slot {e : EltTy} (M : Memref sig .tc .vmem S4x128x512 e) (Y : S128x512.Idx → Elt F e) (Q : Vec F S1x128x512 e → sProp 𝕄) :
    slotOwn c M b Y ⊢ iprop((slotOwn c M b Y -∗ Q (up Y)) -∗ runs c (getSlot M b) Q) := by
  unfold getSlot
  iintro H Hk
  ihave H := (slot_rect c M b Y) $$ H
  iapply (load_rect c M (slotR b) (fun _ => rfl) (up Y) Q) $$ H
  iintro H
  ihave H := (rect_slot c M b (up Y)) $$ H
  rw [down_up]
  iapply Hk; iexact H

/-- Writing a held slot. -/
theorem put_slot (M : Memref sig .tc .vmem S4x128x512 .bf16) (h : M.IsWhole) (Y : S128x512.Idx → Elt F .bf16)
    (v : FVec F S128x512 .bf16) (Q : PUnit → sProp 𝕄) :
    slotOwn c M b Y ⊢ iprop((slotOwn c M b v -∗ Q ⟨⟩) -∗ runs c (putSlot M h b (up v)) Q) := by
  unfold putSlot
  iintro H Hk
  ihave H := (slot_rect c M b Y) $$ H
  iapply (store_rect c M (slotR b) (fun _ => rfl) (up Y) Q) $$ H
  iintro H
  ihave H := (rect_slot c M b (up v)) $$ H
  rw [down_up]
  iapply Hk; iexact H

/-- Writing a held slot of the partial products. -/
theorem put_acc (Y v : FVec F S128x512 .f32) (Q : PUnit → sProp 𝕄) :
    slotOwn c accM b Y ⊢ iprop((slotOwn c accM b v -∗ Q ⟨⟩) -∗ runs c (putAcc b (up v)) Q) := by
  unfold putAcc
  iintro H Hk
  ihave H := (slot_rect c accM b Y) $$ H
  iapply (store_rect c accM (slotR b) (fun _ => rfl) (up Y) Q) $$ H
  iintro H
  ihave H := (rect_slot c accM b (up v)) $$ H
  rw [down_up]
  iapply Hk; iexact H

end Slots

/-! ## The signals and waits -/

variable (m : (ℓ : Loc nD τ sig) → Buf (Elt F) ℓ)

/-- Device `c` owes the listed debts. -/
def owing (c : Dev nD) (js : List Debt) : sProp 𝕄 := iprop(∃ W, owes (c : Thread nD τ) (owed c js) W)

section Sync
variable (κs : Dev nD × Option J → ℕ) (c : Dev nD) (l : Bool) (b : Fin 4) (js : List Debt)

/-- The signal to a leg's partner hands it the landing slots of the leg. -/
theorem signal_spec :
    iprop(records m κs ∗ owing c ((l, none) :: js) ∗ dutyTok ER (barCell (peer l c)) 0 l
        ∗ bigSep Finset.univ fun b : Fin 4 => slotAny c (rbuf l) b)
      ⊢ runs c (semSignalWord (dest l c) barS 1#32) fun _ => owing c js := by
  rw [dest_eq]
  have hp : (bigSep Finset.univ fun b : Fin 4 => slotAny (F := F) c (rbuf l) b) ⊢ (Rd m).payload (barCell (peer l c)) 0 l :=
    Entails.of_eq (by show _ = barPay (peer l c) l; unfold barPay; rw [peer_peer])
  unfold owing runs semSignalWord
  iintro ⟨#HR, ⟨%W, HO⟩, Ht, Hs⟩
  iapply (Rounds.wp_signal 𝒱₀ ER (Rd m) (c : Thread nD τ) none (dst := (peer l c : Thread nD τ)) (κ := κs (peer l c, none))
      (d := l) (by rw [duties_bar]; exact Finset.mem_univ _) (show (Rd m).amount (barCell (peer l c)) 0 l = _ from rfl) () (owed c js) rfl)
    $$ [HO Ht Hs]
  · isplitr; · iapply (records_inv m κs (peer l c, none)); iexact HR
    isplitl [HO]; · iexact HO
    isplitl [Ht]; · iexact Ht
    isplitl [Hs]; · iapply hp; iexact Hs
    · iapply (records_reached m κs (peer l c, none)); iexact HR
  iintro HO
  rw [wp_ret]; imodintro
  iexists W; iexact HO

/-- The wait on the barrier: both partners' landing slots come with it. -/
theorem barrier_spec (h : ∀ j ∈ js, 1 < level j) :
    iprop(records m κs ∗ levAts L lv ∗ owing c js ∗ cred (tallyAt (barCell c) () 2) ∗ atPos ER (barCell c) 0 ∅ 0)
      ⊢ runs c (semWaitWord barS 2#32) fun _ =>
          iprop(owing c js ∗ barPay c false ∗ barPay c true ∗ semVal (barCell c) 0) := by
  unfold owing runs semWaitWord
  iintro ⟨#HR, #HL, ⟨%W, HO⟩, Hc, Hat⟩
  iapply (Rounds.wp_wait_rest_token 𝒱₀ ER (Rd m) (c : Thread nD τ) none (κ := κs (c, none))
      (wpE_semWait_eq 𝒱₀ (c : Thread nD τ) none Set.univ) (Set.mem_univ _) () (O := owed c js) (W := W) (R := 0) (m := 0) (T := ∅)
      (by rw [expect_bar]; decide)) $$ [Hc HO Hat]
  · isplitr; · iapply (records_inv m κs (c, none)); iexact HR
    isplitl [Hc]; · iexact Hc
    isplitl [HO]; · iexact HO
    isplitr; · iapply (mayWait (F := F) c (.reg barS) js 1 (le_refl _) h); iexact HL
    iexact Hat
  iintro ⟨HO, Hat, -, Hp⟩
  ihave Hp := (Entails.of_eq (rest_bar m c)) $$ Hp
  icases Hp with ⟨HA, HB⟩
  imod (Rounds.cell_close ER (Rd m) (Set.mem_univ (κs (c, none))) (fun h => h) (R := 0 + 1) (duties_later m (barCell c))) $$ [Hat] with Hz
  · isplitr; · iapply (records_inv m κs (c, none)); iexact HR
    iexact Hat
  rw [wp_ret]; imodintro
  isplitl [HO]; · iexists _; iexact HO
  isplitl [HA]; · iexact HA
  isplitl [HB] <;> iassumption

/-- A wait for the end of a copy, by any effect that waits on its cell for its credit. -/
theorem await_spec (j : J) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (xsem j)) N Kt)
    (n : ℕ) (hn : lv (xcell c j) () ≤ n) (h : ∀ j ∈ js, n < level j) :
    iprop(records m κs ∗ levAts L lv ∗ owing c js ∗ cred (tallyAt (xcell c j) () N) ∗ atPos ER (xcell c j) 0 ∅ 0)
      ⊢ runs c (Prog.lift w) fun _ => iprop(owing c js ∗ xPay m c j ∗ semVal (xcell c j) 0) := by
  unfold owing runs Prog.lift
  iintro ⟨#HR, #HL, ⟨%W, HO⟩, Hc, Hat⟩
  iapply (Rounds.wp_wait_rest_token 𝒱₀ ER (Rd m) (c : Thread nD τ) none (κ := κs (c, some j)) hw (Set.mem_univ _) () (O := owed c js) (W := W) (R := 0) (m := 0) (T := ∅)
      (by rw [Nat.zero_add, expect_x])) $$ [Hc HO Hat]
  · isplitr; · iapply (records_inv m κs (c, some j)); iexact HR
    isplitl [Hc]; · iexact Hc
    isplitl [HO]; · iexact HO
    isplitr; · iapply (mayWait (F := F) c (.dma (xsem j)) js n hn h); iexact HL
    iexact Hat
  iintro ⟨HO, Hat, -, Hp⟩
  ihave Hp := (Entails.of_eq (rest_x m c j)) $$ Hp
  imod (Rounds.cell_close ER (Rd m) (Set.mem_univ (κs (c, some j))) (fun h => h) (R := 0 + 1) (duties_later m (xcell c j))) $$ [Hat] with Hz
  · isplitr; · iapply (records_inv m κs (c, some j)); iexact HR
    iexact Hat
  rw [wp_ret]; imodintro
  isplitl [HO]; · iexists _; iexact HO
  isplitl [Hp] <;> iassumption

/-- The wait for a block to land: the slot holds what the partner sent. -/
theorem recv_spec (h : ∀ j ∈ js, level (l, some b) < level j) :
    iprop(records m κs ∗ levAts L lv ∗ owing c js ∗ cred (tallyAt (xcell c (l, true, b)) () N) ∗ atPos ER (xcell c (l, true, b)) 0 ∅ 0)
      ⊢ runs c (recv l b) fun _ => iprop(owing c js ∗ slotOwn c (rbuf l) b (val m l (peer l c) b) ∗ semVal (xcell c (l, true, b)) 0) :=
  await_spec m κs c js (l, true, b) (fun Kt => by
    rw [← credit_rbuf l b]; exact wpE_waitDma2_eq 𝒱₀ (c : Thread nD τ) none Set.univ Kt)
    (level (l, some b)) (le_of_eq (lv_debt c (l, some b))) h

/-- The wait for a copy to have been read: the slot it read is back. -/
theorem done_spec :
    iprop(records m κs ∗ levAts L lv ∗ owing c [] ∗ cred (tallyAt (xcell c (l, false, b)) () N) ∗ atPos ER (xcell c (l, false, b)) 0 ∅ 0)
      ⊢ runs c (done l b) fun _ => iprop(owing c [] ∗ slotOwn c (sbuf l) b (val m l c b) ∗ semVal (xcell c (l, false, b)) 0) :=
  await_spec m κs c [] (l, false, b) (fun Kt => by
    rw [← credit_sbuf l b]; exact wpE_waitDma2_eq 𝒱₀ (c : Thread nD τ) none Set.univ Kt)
    _ (le_refl _) (fun j hj => absurd hj List.not_mem_nil)

/-- The copy of a block to the partner, at the device the program computes. -/
theorem send_spec_at (n : Dev nD) (hn : n = peer l c) {hsc : (slot (rbuf l) b).view.ref.isScScratch = false}
    {hsrc : (slot (sbuf l) b).view.WordExact} {hdst : (slot (rbuf l) b).view.WordExact}
    {hsem : DmaTarget.Typed .vmem (.dma (semAt (rsem l) b)) (.remote (Dev.tc n : Thread nD τ) (slot (rbuf l) b) (.dma (semAt (ssem l) b)) hsc)} :
    iprop(records m κs ∗ owing c ((l, some b) :: js) ∗ slotOwn c (sbuf l) b (val m l c b) ∗ slotAny (peer l c) (rbuf l) b
        ∗ dutyTok ER (xcell c (l, false, b)) 0 false ∗ dutyTok ER (xcell (peer l c) (l, true, b)) 0 false)
      ⊢ runs c (Prog.lift (.enqueueDma (slot (sbuf l) b) (.remote (Dev.tc n) (slot (rbuf l) b) (.dma (semAt (ssem l) b)) hsc)
          (.dma (semAt (rsem l) b)) hsrc hdst hsem)) fun _ => iprop(owing c js ∗ cred (tallyAt (xcell c (l, false, b)) () N)) := by
  subst hn
  unfold owing runs Prog.lift slotAny slotOwn ownsTc owns
  iintro ⟨#HR, ⟨%W, HO⟩, ⟨%f, %hf, Hs⟩, ⟨%Y, %g, %hg, Hd⟩, Ht, Ht'⟩
  iapply (Rounds.wp_send_pointsTo 𝒱₀ ER (Rd m) (c : Thread nD τ) none (κ₁ := κs (c, some (l, false, b))) (κ₂ := κs (peer l c, some (l, true, b)))
    (r₁ := 0) (r₂ := 0) (d₁ := false) (d₂ := false) (fs := f) (fd := g)
    (show false ∈ (Rd m).duties (xcell c (l, false, b)) 0 by rw [duties_x]; exact Finset.mem_singleton_self _)
    (show false ∈ (Rd m).duties (xcell (peer l c) (l, true, b)) 0 by rw [duties_x]; exact Finset.mem_singleton_self _)
    () () N (credit_rbuf l b) rfl rfl (owed c js) rfl (W := W)
    (by
      show _ ⊢ (Rd m).payload (xcell c (l, false, b)) 0 false
      rw [payload_x]
      show _ ⊢ slotOwn c (sbuf l) b (val m l c b)
      rw [← hf]
      exact owns_intro (c : Thread nD τ) (slot (sbuf l) b) fullShare f)
    (by
      show _ ⊢ (Rd m).payload (xcell (peer l c) (l, true, b)) 0 false
      rw [payload_x]
      show _ ⊢ slotOwn (peer l c) (rbuf l) b (val m l (peer l (peer l c)) b)
      rw [peer_peer, ← hf]
      have h := owns_intro (Ix := Unit) (Name := ℕ) (U := UU) (Lvl := ℕ) (peer l c : Thread nD τ) (slot (rbuf l) b) fullShare
        ((slot (rbuf l) b).view.write (Elt F) g ((slot (sbuf l) b).view.read (Elt F) f) Finset.univ)
      rw [View.read_write_univ] at h
      exact h)) $$ [HO Hs Hd Ht Ht']
  · isplitr; · iapply (records_inv m κs (c, some (l, false, b))); iexact HR
    isplitr; · iapply (records_inv m κs (peer l c, some (l, true, b))); iexact HR
    isplitl [Hs]; · iexact Hs
    isplitl [Hd]; · iexact Hd
    isplitl [HO]; · iexact HO
    isplitl [Ht]; · iexact Ht
    isplitr; · iapply (records_reached m κs (c, some (l, false, b))); iexact HR
    isplitl [Ht']; · iexact Ht'
    iapply (records_reached m κs (peer l c, some (l, true, b))); iexact HR
  iintro ⟨Hc, HO⟩
  rw [wp_ret]; imodintro
  isplitl [HO]; · iexists W; iexact HO
  iexact Hc

/-- The copy of a block to the partner. -/
theorem send_spec :
    iprop(records m κs ∗ owing c ((l, some b) :: js) ∗ slotOwn c (sbuf l) b (val m l c b) ∗ slotAny (peer l c) (rbuf l) b
        ∗ dutyTok ER (xcell c (l, false, b)) 0 false ∗ dutyTok ER (xcell (peer l c) (l, true, b)) 0 false)
      ⊢ runs c (send l c b) fun _ => iprop(owing c js ∗ cred (tallyAt (xcell c (l, false, b)) () N)) :=
  send_spec_at m κs c l b js (dest l c) (dest_eq l c)

end Sync

end Cert.KernelIdealProof

end
-- ==== Proof.KernelIdealPieces.lean ====
/- What each piece of the body does to what a device holds, a block's whole passage through the two
   exchanges, and the body's run at any device. -/
module

public import proofs.«01_k».proof.Proof.KernelIdealSteps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds -/

section Holds
variable (c : Dev nD)

/-- The three staged inputs. -/
def inputs : sProp 𝕄 :=
  iprop(ownsTc c xM fullShare (xstg m c) ∗ ownsTc c w1M fullShare (w1stg m c) ∗ ownsTc c w2M fullShare (w2stg m c))
/-- Their casts. -/
def wts : sProp 𝕄 :=
  iprop(ownsTc c xbM fullShare (castX (xstg m c)) ∗ ownsTc c w1bM fullShare (castW1 (w1stg m c))
    ∗ ownsTc c w2bM fullShare (castW2 (w2stg m c)))
/-- The casts' buffers, at any contents. -/
def wtsAny : sProp 𝕄 :=
  iprop((∃ Y, ownsTc (Val := Elt F) c xbM fullShare Y) ∗ (∃ Y, ownsTc (Val := Elt F) c w1bM fullShare Y)
    ∗ ∃ Y, ownsTc (Val := Elt F) c w2bM fullShare Y)
/-- The result's rows of block `b`, holding `Y`. -/
abbrev outOwn (b : Fin 4) (Y : S128x512.Idx → Elt F .f32) : sProp 𝕄 := ownsTc c (outM.slice (rowsR b) fun _ => rfl) fullShare Y
end Holds

/-! ## The pieces that compute -/

section Compute
variable (c : Dev nD) (b : Fin 4)

/-- The casts. -/
theorem casts_spec : iprop(inputs m c ∗ wtsAny (F := F) c) ⊢ runs c casts fun _ => iprop(inputs m c ∗ wts m c) := by
  unfold inputs wtsAny wts casts runs
  simp only [wp_bind]
  iintro ⟨⟨Hx, H1, H2⟩, ⟨%Y, Yx⟩, ⟨%Y1, Y1⟩, %Y2, Y2⟩
  iapply (load_whole c xM hz _ _ _) $$ Hx; iintro Hx
  iapply (load_whole c xbM hz _ _ _) $$ Yx; iintro Yx
  iapply (store_whole c xbM hz _ _ _) $$ Yx; iintro Yx
  iapply (load_whole c w1M hz _ _ _) $$ H1; iintro H1
  iapply (load_whole c w1bM hz _ _ _) $$ Y1; iintro Y1
  iapply (store_whole c w1bM hz _ _ _) $$ Y1; iintro Y1
  iapply (load_whole c w2M hz _ _ _) $$ H2; iintro H2
  iapply (load_whole c w2bM hz _ _ _) $$ Y2; iintro Y2
  iapply (store_whole c w2bM hz _ _ _) $$ Y2; iintro Y2
  isplitl [Hx H1 H2]
  · isplitl [Hx]; · iexact Hx
    isplitl [H1] <;> iassumption
  isplitl [Yx]; · iexact Yx
  isplitl [Y1] <;> iassumption

/-- The partial product of a block. -/
theorem block_spec : iprop(wts m c ∗ slotAny c accM b ∗ slotAny c sAM b)
    ⊢ runs c (block b) fun _ => iprop(wts m c ∗ slotOwn c accM b (own m c b) ∗ slotOwn c sAM b (val m false c b)) := by
  unfold wts block runs
  simp only [wp_bind]
  iintro ⟨⟨Hx, H1, H2⟩, ⟨%Y, Ha⟩, %Z, Hs⟩
  iapply (load_part c xbM (rowsR b) _ _) $$ Hx; iintro Hx
  iapply (load_whole c w1bM hz _ _ _) $$ H1; iintro H1
  iapply (load_whole c w2bM hz _ _ _) $$ H2; iintro H2
  iapply (get_slot c b accM _ _) $$ Ha; iintro Ha
  iapply (put_acc c b _ _ _) $$ Ha; iintro Ha
  iapply (get_slot c b sAM _ _) $$ Hs; iintro Hs
  iapply (put_slot c b sAM _ _ _ _) $$ Hs; iintro Hs
  isplitl [Hx H1 H2]
  · isplitl [Hx]; · iexact Hx
    isplitl [H1] <;> iassumption
  isplitl [Ha]; · iexact Ha
  iexact Hs

/-- The sum with what came from the first partner. -/
theorem mid_spec : iprop(slotOwn c accM b (own m c b) ∗ slotOwn c rAM b (val m false (peer false c) b) ∗ slotAny c sBM b)
    ⊢ runs c (mid b) fun _ => iprop(slotOwn c accM b (own m c b) ∗ slotOwn c rAM b (val m false (peer false c) b)
        ∗ slotOwn c sBM b (val m true c b)) := by
  unfold mid runs
  simp only [wp_bind]
  iintro ⟨Ha, Hr, %Z, Hs⟩
  iapply (get_slot c b accM _ _) $$ Ha; iintro Ha
  iapply (get_slot c b rAM _ _) $$ Hr; iintro Hr
  iapply (get_slot c b sBM _ _) $$ Hs; iintro Hs
  rw [down_up, down_up]
  iapply (put_slot c b sBM _ _ _ _) $$ Hs; iintro Hs
  isplitl [Ha]; · iexact Ha
  isplitl [Hr]; · iexact Hr
  iexact Hs

/-- The rows' result. -/
theorem out_spec : iprop(slotOwn c accM b (own m c b) ∗ slotOwn c rAM b (val m false (peer false c) b)
      ∗ slotOwn c rBM b (val m true (peer true c) b) ∗ ∃ Y, outOwn (F := F) c b Y)
    ⊢ runs c (out b) fun _ => iprop(slotOwn c accM b (own m c b) ∗ slotOwn c rAM b (val m false (peer false c) b)
      ∗ slotOwn c rBM b (val m true (peer true c) b) ∗ outOwn c b (res m c b)) := by
  unfold out runs
  simp only [wp_bind]
  iintro ⟨Ha, Hr, Ht, %Z, Ho⟩
  iapply (get_slot c b accM _ _) $$ Ha; iintro Ha
  iapply (get_slot c b rAM _ _) $$ Hr; iintro Hr
  iapply (get_slot c b rBM _ _) $$ Ht; iintro Ht
  rw [down_up, down_up, down_up]
  iapply (load_rect c outM (rowsR b) (fun _ => rfl) _ _) $$ Ho; iintro Ho
  iapply (store_rect c outM (rowsR b) (fun _ => rfl) _ _) $$ Ho; iintro Ho
  isplitl [Ha]; · iexact Ha
  isplitl [Hr]; · iexact Hr
  isplitl [Ht]; · iexact Ht
  iexact Ho

end Compute

/-! ## A block's passage -/

section States
variable (c : Dev nD)

/-- What the copy of a leg's block takes, and a position at the cell it raises on the sender. -/
def toSend (l : Bool) (b : Fin 4) : sProp 𝕄 :=
  iprop(dutyTok ER (xcell c (l, false, b)) 0 false ∗ dutyTok ER (xcell (peer l c) (l, true, b)) 0 false ∗ atPos ER (xcell c (l, false, b)) 0 ∅ 0)
/-- What the wait for the copy to have been read takes. -/
def sent (l : Bool) (b : Fin 4) : sProp 𝕄 :=
  iprop(cred (tallyAt (xcell c (l, false, b)) () N) ∗ atPos ER (xcell c (l, false, b)) 0 ∅ 0)
/-- What the wait for a leg's block to land takes. -/
def toRecv (l : Bool) (b : Fin 4) : sProp 𝕄 :=
  iprop(cred (tallyAt (xcell c (l, true, b)) () N) ∗ atPos ER (xcell c (l, true, b)) 0 ∅ 0)

variable (b : Fin 4)

/-- A block before its partial product. -/
def fresh : sProp 𝕄 :=
  iprop(slotAny c accM b ∗ slotAny c sAM b ∗ slotAny c sBM b ∗ (∃ Y, outOwn (F := F) c b Y)
    ∗ toSend c false b ∗ toSend c true b ∗ toRecv c false b ∗ toRecv c true b)
/-- A block with its partial product computed. -/
def computed : sProp 𝕄 :=
  iprop(slotOwn c accM b (own m c b) ∗ slotOwn c sAM b (val m false c b) ∗ slotAny c sBM b ∗ (∃ Y, outOwn (F := F) c b Y)
    ∗ toSend c false b ∗ toSend c true b ∗ toRecv c false b ∗ toRecv c true b)
/-- A block sent to the first partner. -/
def sentOne : sProp 𝕄 :=
  iprop(slotOwn c accM b (own m c b) ∗ slotAny c sBM b ∗ (∃ Y, outOwn (F := F) c b Y)
    ∗ sent c false b ∗ toSend c true b ∗ toRecv c false b ∗ toRecv c true b)
/-- A block received from the first partner, and its sum sent to the second. -/
def sentTwo : sProp 𝕄 :=
  iprop(slotOwn c accM b (own m c b) ∗ slotOwn c rAM b (val m false (peer false c) b) ∗ (∃ Y, outOwn (F := F) c b Y)
    ∗ sent c false b ∗ sent c true b ∗ semVal (xcell c (false, true, b)) 0 ∗ toRecv c true b)
/-- A block with its result stored. -/
def summed : sProp 𝕄 :=
  iprop(slotAny c accM b ∗ slotAny c rAM b ∗ slotAny c rBM b ∗ outOwn c b (res m c b)
    ∗ sent c false b ∗ sent c true b ∗ semVal (xcell c (false, true, b)) 0 ∗ semVal (xcell c (true, true, b)) 0)
/-- A block with all its copies ended. -/
def finished : sProp 𝕄 :=
  iprop(slotAny c accM b ∗ slotAny c sAM b ∗ slotAny c sBM b ∗ slotAny c rAM b ∗ slotAny c rBM b ∗ outOwn c b (res m c b)
    ∗ semVal (xcell c (false, false, b)) 0 ∗ semVal (xcell c (true, false, b)) 0
    ∗ semVal (xcell c (false, true, b)) 0 ∗ semVal (xcell c (true, true, b)) 0)

end States

section Passage
variable (κs : Dev nD × Option J → ℕ) (c : Dev nD) (b : Fin 4) (js : List Debt)

/-- A spec before what follows. -/
theorem runs_use {c : Dev nD} {p : K F PUnit} {P R : sProp 𝕄} (h : P ⊢ runs c p fun _ => R) (Φ : sProp 𝕄) :
    P ⊢ iprop((R -∗ Φ) -∗ runs c p fun _ => Φ) := by
  refine h.trans ?_
  iintro H Hk
  iapply (wp_wand _ _ _) $$ H
  iintro %a HR
  iapply Hk; iexact HR

/-- Computing a block's partial product. -/
theorem to_computed (Φ : sProp 𝕄) : iprop(wts m c ∗ fresh (F := F) c b) ⊢ iprop((wts m c ∗ computed m c b -∗ Φ) -∗ runs c (block b) fun _ => Φ) := by
  unfold fresh computed
  iintro ⟨Hw, Ha, Hs, Hr⟩ Hk
  iapply (runs_use (block_spec m c b) Φ) $$ [Hw Ha Hs]
  · isplitl [Hw]; · iexact Hw
    isplitl [Ha] <;> iassumption
  iintro ⟨Hw, Ha, Hs⟩
  iapply Hk
  isplitl [Hw]; · iexact Hw
  isplitl [Ha]; · iexact Ha
  isplitl [Hs] <;> iassumption

/-- Sending it to the first partner. -/
theorem to_sentOne (Φ : sProp 𝕄) : iprop(records m κs ∗ owing c ((false, some b) :: js) ∗ computed m c b ∗ slotAny (peer false c) (rbuf false) b)
    ⊢ iprop((owing c js ∗ sentOne m c b -∗ Φ) -∗ runs c (send false c b) fun _ => Φ) := by
  unfold computed sentOne toSend sent
  iintro ⟨#HR, HO, ⟨Ha, Hs, HsB, Ho, ⟨Ht, Ht', Hp⟩, Hr⟩, Hd⟩ Hk
  iapply (runs_use (send_spec m κs c false b js) Φ) $$ [HO Hs Hd Ht Ht']
  · isplitr; · iexact HR
    isplitl [HO]; · iexact HO
    isplitl [Hs]; · iexact Hs
    isplitl [Hd]; · iexact Hd
    isplitl [Ht] <;> iassumption
  iintro ⟨HO, Hc⟩
  iapply Hk
  isplitl [HO]; · iexact HO
  isplitl [Ha]; · iexact Ha
  isplitl [HsB]; · iexact HsB
  isplitl [Ho]; · iexact Ho
  isplitl [Hc Hp]
  · isplitl [Hc] <;> iassumption
  iexact Hr

/-- Receiving the first partner's, and sending the sum to the second. -/
theorem to_sentTwo (h : ∀ j ∈ (true, some b) :: js, level (false, some b) < level j) (Φ : sProp 𝕄) :
    iprop(records m κs ∗ levAts L lv ∗ owing c ((true, some b) :: js) ∗ sentOne m c b ∗ slotAny (peer true c) (rbuf true) b)
      ⊢ iprop((owing c js ∗ sentTwo m c b -∗ Φ)
          -∗ runs c (recv false b) fun _ => runs c (mid b) fun _ => runs c (send true c b) fun _ => Φ) := by
  unfold sentOne sentTwo toSend sent
  iintro ⟨#HR, #HL, HO, ⟨Ha, Hs, Ho, HsA, ⟨Ht, Ht', Hp⟩, Hr, HrB⟩, Hd⟩ Hk
  iapply (runs_use (recv_spec m κs c false b ((true, some b) :: js) h) _) $$ [HO Hr]
  · unfold toRecv
    isplitr; · iexact HR
    isplitr; · iexact HL
    isplitl [HO]; · iexact HO
    iexact Hr
  iintro ⟨HO, Hr, Hz⟩
  iapply (runs_use (mid_spec m c b) _) $$ [Ha Hr Hs]
  · isplitl [Ha]; · iexact Ha
    isplitl [Hr] <;> iassumption
  iintro ⟨Ha, Hr, Hs⟩
  iapply (runs_use (send_spec m κs c true b js) Φ) $$ [HO Hs Hd Ht Ht']
  · isplitr; · iexact HR
    isplitl [HO]; · iexact HO
    isplitl [Hs]; · iexact Hs
    isplitl [Hd]; · iexact Hd
    isplitl [Ht] <;> iassumption
  iintro ⟨HO, Hc⟩
  iapply Hk
  isplitl [HO]; · iexact HO
  isplitl [Ha]; · iexact Ha
  isplitl [Hr]; · iexact Hr
  isplitl [Ho]; · iexact Ho
  isplitl [HsA]; · iexact HsA
  isplitl [Hc Hp]
  · isplitl [Hc] <;> iassumption
  isplitl [Hz] <;> iassumption

/-- Receiving the second partner's sum, and storing the result. -/
theorem to_summed (h : ∀ j ∈ js, level (true, some b) < level j) (Φ : sProp 𝕄) :
    iprop(records m κs ∗ levAts L lv ∗ owing c js ∗ sentTwo m c b)
      ⊢ iprop((owing c js ∗ summed m c b -∗ Φ) -∗ runs c (recv true b) fun _ => runs c (out b) fun _ => Φ) := by
  unfold sentTwo summed
  iintro ⟨#HR, #HL, HO, ⟨Ha, Hr, Ho, HsA, HsB, Hz, HrB⟩⟩ Hk
  iapply (runs_use (recv_spec m κs c true b js h) _) $$ [HO HrB]
  · unfold toRecv
    isplitr; · iexact HR
    isplitr; · iexact HL
    isplitl [HO]; · iexact HO
    iexact HrB
  iintro ⟨HO, HrB, Hz'⟩
  iapply (runs_use (out_spec m c b) _) $$ [Ha Hr HrB Ho]
  · isplitl [Ha]; · iexact Ha
    isplitl [Hr]; · iexact Hr
    isplitl [HrB] <;> iassumption
  iintro ⟨Ha, Hr, HrB, Ho⟩
  iapply Hk
  isplitl [HO]; · iexact HO
  isplitl [Ha]; · iexists _; iexact Ha
  isplitl [Hr]; · iexists _; iexact Hr
  isplitl [HrB]; · iexists _; iexact HrB
  isplitl [Ho]; · iexact Ho
  isplitl [HsA]; · iexact HsA
  isplitl [HsB]; · iexact HsB
  isplitl [Hz] <;> iassumption

/-- Waiting for both copies to have been read. -/
theorem to_finished (Φ : sProp 𝕄) : iprop(records m κs ∗ levAts L lv ∗ owing c [] ∗ summed m c b)
    ⊢ iprop((owing c [] ∗ finished m c b -∗ Φ) -∗ runs c (done false b) fun _ => runs c (done true b) fun _ => Φ) := by
  unfold summed finished
  iintro ⟨#HR, #HL, HO, ⟨Ha, Hr, HrB, Ho, HsA, HsB, Hz, Hz'⟩⟩ Hk
  iapply (runs_use (done_spec m κs c false b) _) $$ [HO HsA]
  · unfold sent
    isplitr; · iexact HR
    isplitr; · iexact HL
    isplitl [HO] <;> iassumption
  iintro ⟨HO, HsA, Hy⟩
  iapply (runs_use (done_spec m κs c true b) _) $$ [HO HsB]
  · unfold sent
    isplitr; · iexact HR
    isplitr; · iexact HL
    isplitl [HO] <;> iassumption
  iintro ⟨HO, HsB, Hy'⟩
  iapply Hk
  isplitl [HO]; · iexact HO
  isplitl [Ha]; · iexact Ha
  isplitl [HsA]; · iexists _; iexact HsA
  isplitl [HsB]; · iexists _; iexact HsB
  isplitl [Hr]; · iexact Hr
  isplitl [HrB]; · iexact HrB
  isplitl [Ho]; · iexact Ho
  isplitl [Hy]; · iexact Hy
  isplitl [Hy']; · iexact Hy'
  isplitl [Hz] <;> iassumption

end Passage

/-! ## The body -/

section Body
variable (κs : Dev nD × Option J → ℕ) (c : Dev nD)

/-- What a device starts with, its debts and the shared records aside. -/
def bodyHas : sProp 𝕄 :=
  iprop(inputs m c ∗ wtsAny (F := F) c ∗ (cred (tallyAt (barCell c) () 2) ∗ atPos ER (barCell c) 0 ∅ 0)
    ∗ (bigSep Finset.univ fun l : Bool => iprop(dutyTok ER (barCell (peer l c)) 0 l ∗ bigSep Finset.univ fun b : Fin 4 => slotAny (F := F) c (rbuf l) b))
    ∗ bigSep Finset.univ fun b : Fin 4 => fresh (F := F) c b)
/-- What it ends with. -/
def bodyLeaves : sProp 𝕄 :=
  iprop(inputs m c ∗ wts m c ∗ semVal (barCell c) 0 ∗ bigSep Finset.univ fun b : Fin 4 => finished m c b)

/-- A product over two legs, and over four blocks, written out. -/
theorem over_legs (P : Bool → sProp 𝕄) : bigSep Finset.univ P = iprop(P false ∗ P true) := by
  rw [bigSep_univ_eq_bigSepL [false, true] (by decide) (by decide), bigSepL_cons_cons, bigSepL_singleton]
  rfl
/-- And over the four blocks. -/
theorem over_blocks (P : Fin 4 → sProp 𝕄) : bigSep Finset.univ P = iprop(P 0 ∗ P 1 ∗ P 2 ∗ P 3) := by
  rw [bigSep_univ_eq_bigSepL [0, 1, 2, 3] (by decide) (by decide), bigSepL_cons_cons, bigSepL_cons_cons, bigSepL_cons_cons, bigSepL_singleton]
  rfl

/-- A program's own device. -/
theorem device_spec (Q : Dev nD → sProp 𝕄) : Q c ⊢ runs c (Prog.lift .deviceId) Q := by
  unfold runs Prog.lift
  iintro H
  rw [wp_deviceId, wp_ret]; imodintro
  iexact H

/-- The body at a device: it pays what it owes and leaves its result's rows. -/
theorem body_spec : iprop(records m κs ∗ levAts L lv ∗ owing c debts ∗ bodyHas m c)
    ⊢ runs c body fun _ => iprop(owing c [] ∗ bodyLeaves m c) := by
  unfold bodyHas bodyLeaves body rest runs
  simp only [wp_bind, over_legs, over_blocks (fresh c), over_blocks (finished m c)]
  iintro ⟨#HR, #HL, HO, Hi, Hw, ⟨Hbc, Hbp⟩, ⟨⟨HtA, HlA⟩, HtB, HlB⟩, S0, S1, S2, S3⟩
  iapply (device_spec c _)
  iapply (runs_use (signal_spec m κs c false ((true, none) :: debtsX)) _) $$ [HO HtA HlA]
  · isplitr; · iexact HR
    isplitl [HO]; · iexact HO
    isplitl [HtA] <;> iassumption
  iintro HO
  iapply (runs_use (signal_spec m κs c true debtsX) _) $$ [HO HtB HlB]
  · isplitr; · iexact HR
    isplitl [HO]; · iexact HO
    isplitl [HtB] <;> iassumption
  iintro HO
  iapply (runs_use (casts_spec m c) _) $$ [Hi Hw]
  · isplitl [Hi] <;> iassumption
  iintro ⟨Hi, Hw⟩
  iapply (to_computed m c 0 _) $$ [Hw S0]
  · isplitl [Hw] <;> iassumption
  iintro ⟨Hw, S0⟩
  iapply (runs_use (barrier_spec m κs c debtsX (by decide)) _) $$ [HO Hbc Hbp]
  · isplitr; · iexact HR
    isplitr; · iexact HL
    isplitl [HO]; · iexact HO
    isplitl [Hbc] <;> iassumption
  iintro ⟨HO, HlA, HlB, Hz⟩
  unfold barPay
  simp only [over_blocks]
  icases HlA with ⟨A0, A1, A2, A3⟩
  icases HlB with ⟨B0, B1, B2, B3⟩
  iapply (to_sentOne m κs c 0 [(false, some 1), (false, some 2), (false, some 3), (true, some 0), (true, some 1), (true, some 2), (true, some 3)] _) $$ [HO S0 A0]
  · isplitr; · iexact HR
    isplitl [HO]; · iexact HO
    isplitl [S0] <;> iassumption
  iintro ⟨HO, S0⟩
  iapply (to_computed m c 1 _) $$ [Hw S1]
  · isplitl [Hw] <;> iassumption
  iintro ⟨Hw, S1⟩
  iapply (to_sentOne m κs c 1 [(false, some 2), (false, some 3), (true, some 0), (true, some 1), (true, some 2), (true, some 3)] _) $$ [HO S1 A1]
  · isplitr; · iexact HR
    isplitl [HO]; · iexact HO
    isplitl [S1] <;> iassumption
  iintro ⟨HO, S1⟩
  iapply (to_computed m c 2 _) $$ [Hw S2]
  · isplitl [Hw] <;> iassumption
  iintro ⟨Hw, S2⟩
  iapply (to_sentOne m κs c 2 [(false, some 3), (true, some 0), (true, some 1), (true, some 2), (true, some 3)] _) $$ [HO S2 A2]
  · isplitr; · iexact HR
    isplitl [HO]; · iexact HO
    isplitl [S2] <;> iassumption
  iintro ⟨HO, S2⟩
  iapply (to_computed m c 3 _) $$ [Hw S3]
  · isplitl [Hw] <;> iassumption
  iintro ⟨Hw, S3⟩
  iapply (to_sentOne m κs c 3 debtsB _) $$ [HO S3 A3]
  · isplitr; · iexact HR
    isplitl [HO]; · iexact HO
    isplitl [S3] <;> iassumption
  iintro ⟨HO, S3⟩
  iapply (to_sentTwo m κs c 0 [(true, some 1), (true, some 2), (true, some 3)] (by decide) _) $$ [HO S0 B0]
  · isplitr; · iexact HR
    isplitr; · iexact HL
    isplitl [HO]; · iexact HO
    isplitl [S0] <;> iassumption
  iintro ⟨HO, S0⟩
  iapply (to_sentTwo m κs c 1 [(true, some 2), (true, some 3)] (by decide) _) $$ [HO S1 B1]
  · isplitr; · iexact HR
    isplitr; · iexact HL
    isplitl [HO]; · iexact HO
    isplitl [S1] <;> iassumption
  iintro ⟨HO, S1⟩
  iapply (to_summed m κs c 0 [(true, some 2), (true, some 3)] (by decide) _) $$ [HO S0]
  · isplitr; · iexact HR
    isplitr; · iexact HL
    isplitl [HO] <;> iassumption
  iintro ⟨HO, S0⟩
  iapply (to_sentTwo m κs c 2 [(true, some 3)] (by decide) _) $$ [HO S2 B2]
  · isplitr; · iexact HR
    isplitr; · iexact HL
    isplitl [HO]; · iexact HO
    isplitl [S2] <;> iassumption
  iintro ⟨HO, S2⟩
  iapply (to_summed m κs c 1 [(true, some 3)] (by decide) _) $$ [HO S1]
  · isplitr; · iexact HR
    isplitr; · iexact HL
    isplitl [HO] <;> iassumption
  iintro ⟨HO, S1⟩
  iapply (to_sentTwo m κs c 3 [] (by decide) _) $$ [HO S3 B3]
  · isplitr; · iexact HR
    isplitr; · iexact HL
    isplitl [HO]; · iexact HO
    isplitl [S3] <;> iassumption
  iintro ⟨HO, S3⟩
  iapply (to_summed m κs c 2 [] (by decide) _) $$ [HO S2]
  · isplitr; · iexact HR
    isplitr; · iexact HL
    isplitl [HO] <;> iassumption
  iintro ⟨HO, S2⟩
  iapply (to_summed m κs c 3 [] (by decide) _) $$ [HO S3]
  · isplitr; · iexact HR
    isplitr; · iexact HL
    isplitl [HO] <;> iassumption
  iintro ⟨HO, S3⟩
  iapply (to_finished m κs c 0 _) $$ [HO S0]
  · isplitr; · iexact HR
    isplitr; · iexact HL
    isplitl [HO] <;> iassumption
  iintro ⟨HO, S0⟩
  iapply (to_finished m κs c 1 _) $$ [HO S1]
  · isplitr; · iexact HR
    isplitr; · iexact HL
    isplitl [HO] <;> iassumption
  iintro ⟨HO, S1⟩
  iapply (to_finished m κs c 2 _) $$ [HO S2]
  · isplitr; · iexact HR
    isplitr; · iexact HL
    isplitl [HO] <;> iassumption
  iintro ⟨HO, S2⟩
  iapply (to_finished m κs c 3 _) $$ [HO S3]
  · isplitr; · iexact HR
    isplitr; · iexact HL
    isplitl [HO] <;> iassumption
  iintro ⟨HO, S3⟩
  isplitl [HO]; · iexact HO
  isplitl [Hi]; · iexact Hi
  isplitl [Hw]; · iexact Hw
  isplitl [Hz]; · iexact Hz
  isplitl [S0]; · iexact S0
  isplitl [S1]; · iexact S1
  isplitl [S2] <;> iassumption

end Body

end Cert.KernelIdealProof

end
-- ==== Proof.KernelIdealBuffers.lean ====
/- Buffers held whole and held block by block. -/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
theorem elt_nonempty (e : EltTy) : Nonempty (Elt F e) := inferInstance

/-! ## Arrays put together from parts -/

/-- Parts given on disjoint rectangles are the parts of one array. -/
theorem glue {T : Type} {s : Shape} {α : Type} [Nonempty α] (r : T → Rect s) (hd : ∀ t t', t ≠ t' → Disjoint (r t).set (r t').set)
    (Z : (t : T) → (r t).shape.Idx → α) : ∃ X : s.Idx → α, ∀ t j, X ((r t).emb j) = Z t j := by
  classical
  obtain ⟨a⟩ := ‹Nonempty α›
  let place : (Σ t, (r t).shape.Idx) → s.Idx := fun p => (r p.1).emb p.2
  have hinj : Function.Injective place := by
    rintro ⟨t, j⟩ ⟨t', j'⟩ h
    have ht : t = t' := by
      by_contra hne
      exact Finset.disjoint_left.mp (hd t t' hne) ((r t).idx_mem j) (by rw [show (r t).idx j = (r t').idx j' from h]; exact (r t').idx_mem j')
    subst ht
    exact congrArg (Sigma.mk t) ((r t).emb.injective h)
  exact ⟨Function.extend place (fun p => Z p.1 p.2) fun _ => a, fun t j => hinj.extend_apply _ _ (⟨t, j⟩ : Σ t, (r t).shape.Idx)⟩

/-! ## The blocks cover a buffer -/

/-- Two blocks' slots of a buffer do not meet. -/
theorem slots_apart (b b' : Fin 4) (h : b ≠ b') : Disjoint (slotR b).set (slotR b').set :=
  Rect.unit_disjoint 0 (by
    show b.val + 1 ≤ b'.val ∨ b'.val + 1 ≤ b.val
    have := Fin.val_ne_of_ne h; omega)
/-- Two blocks' rows do not meet. -/
theorem rows_apart (b b' : Fin 4) (h : b ≠ b') : Disjoint (rowsR b).set (rowsR b').set :=
  Rect.unit_disjoint 0 (by
    show 128 * b.val + 128 ≤ 128 * b'.val ∨ 128 * b'.val + 128 ≤ 128 * b.val
    have := Fin.val_ne_of_ne h; omega)
/-- The four slots are all of a buffer. -/
theorem slots_cover : (Finset.univ : Finset (Fin 4)).biUnion (fun b => (slotR b).set) = Finset.univ := by
  refine Finset.eq_univ_iff_forall.mpr fun i => Finset.mem_biUnion.mpr ⟨i 0, Finset.mem_univ _, Rect.mem_set_unit.mpr ?_⟩
  rw [show (∀ a : Fin S4x128x512.rank, _) ↔ ∀ a : Fin 3, _ from Iff.rfl, Fin.forall_fin_succ, Fin.forall_fin_two]
  refine ⟨⟨le_rfl, Nat.lt_succ_self _⟩, ⟨Nat.zero_le _, ?_⟩, Nat.zero_le _, ?_⟩
  · rw [show (![(i 0).val, 0, 0] : Fin 3 → ℕ) _ = 0 from rfl, Nat.zero_add]; exact (i 1).isLt
  · rw [show (![(i 0).val, 0, 0] : Fin 3 → ℕ) _ = 0 from rfl, Nat.zero_add]; exact (i 2).isLt

/-- The block a row is of. -/
def blockOf (i : S512x512.Idx) : Fin 4 := ⟨(i 0).val / 128, by have : (i 0).val < 512 := (i 0).isLt; omega⟩
/-- An element lies in its block's rows. -/
theorem mem_rows (i : S512x512.Idx) : i ∈ (rowsR (blockOf i)).set := by
  refine Rect.mem_set_unit.mpr ?_
  rw [show (∀ a : Fin S512x512.rank, _) ↔ ∀ a : Fin 2, _ from Iff.rfl, Fin.forall_fin_two]
  refine ⟨⟨?_, ?_⟩, Nat.zero_le _, ?_⟩
  · show 128 * ((i 0).val / 128) ≤ (i 0).val; omega
  · show (i 0).val < 128 * ((i 0).val / 128) + 128; omega
  · show (i 1).val < 0 + 512; rw [Nat.zero_add]; exact (i 1).isLt
/-- The four blocks' rows are all the rows. -/
theorem rows_cover : (Finset.univ : Finset (Fin 4)).biUnion (fun b => (rowsR b).set) = Finset.univ :=
  Finset.eq_univ_iff_forall.mpr fun i => Finset.mem_biUnion.mpr ⟨blockOf i, Finset.mem_univ _, mem_rows i⟩

/-! ## A buffer of four slots -/

section Slots
variable (c : Dev nD) {e : EltTy} (M : Memref sig .tc .vmem S4x128x512 e)

/-- Such a buffer, held, is its slots, held. -/
theorem slots_of (X : S4x128x512.Idx → Elt F e) :
    (ownsTc c M fullShare X : sProp 𝕄) ⊢ bigSep Finset.univ fun b : Fin 4 => slotAny (F := F) c M b := by
  refine (owns_rects (c : Thread nD τ) M fullShare slotR (fun _ _ => rfl) slots_apart slots_cover X).trans (bigSep_mono fun b _ => ?_)
  refine (rect_slot c M b _).trans ?_
  iintro H; iexists _; iexact H
/-- And back, at some contents. -/
theorem of_slots : (bigSep Finset.univ fun b : Fin 4 => slotAny (F := F) c M b) ⊢ (iprop(∃ X, ownsTc c M fullShare X) : sProp 𝕄) := by
  haveI : ∀ e, Nonempty (Elt F e) := elt_nonempty
  refine (BI.bigSep_exists_pi Finset.univ (fun (b : Fin 4) (Y : S128x512.Idx → Elt F e) => (slotOwn c M b Y : sProp 𝕄))).trans ?_
  iintro ⟨%Y, H⟩
  obtain ⟨X, hX⟩ := glue slotR slots_apart fun b => up (Y b)
  iexists X
  iapply (owns_of_rects (c : Thread nD τ) M fullShare slotR (fun _ _ => rfl) slots_apart slots_cover X)
  iapply (show (bigSep Finset.univ fun b : Fin 4 => slotOwn c M b (Y b) : sProp 𝕄)
    ⊢ bigSep Finset.univ fun b => owns (c : Thread nD τ) (M.slice (slotR b) (fun _ => rfl)) fullShare (fun j => X ((slotR b).emb j)) from
      bigSep_mono fun b _ => (slot_rect c M b (Y b)).trans (Entails.of_eq (congrArg _ (funext fun j => (hX b j).symm))))
  iexact H
end Slots

/-! ## The result -/

variable (m : (ℓ : Loc nD τ sig) → Buf (Elt F) ℓ)

/-- The place of an element within its block's rows. -/
def within (i : S512x512.Idx) : S128x512.Idx := fun a => match a with
  | ⟨0, _⟩ => ⟨(i 0).val % 128, Nat.mod_lt _ (by decide)⟩
  | ⟨1, _⟩ => i 1
/-- Device `c`'s result: each row as its block's. -/
def outAt (c : Dev nD) : (cc0_stg3_0 : Ref sig .tc).ty.Contents (Elt F) := fun i => res m c (blockOf i) (within i)

/-- On a block's rows it is the block's result. -/
theorem outAt_rows (c : Dev nD) (b : Fin 4) (j : S128x512.Idx) : outAt m c ((rowsR b).emb j) = res m c b j := by
  have h0 : ((rowsR b).emb j 0).val = 128 * b.val + 1 * (j 0).val := rfl
  have h1 : ((rowsR b).emb j 1).val = 0 + 1 * (j 1).val := rfl
  have hj : (j 0).val < 128 := (j 0).isLt
  have hb : blockOf ((rowsR b).emb j) = b := Fin.ext (by show ((rowsR b).emb j 0).val / 128 = b.val; rw [h0]; omega)
  unfold outAt
  rw [hb]
  refine congrArg _ (funext fun a => ?_)
  revert a
  rw [show (∀ a : Fin S128x512.rank, _) ↔ ∀ a : Fin 2, _ from Iff.rfl, Fin.forall_fin_two]
  refine ⟨Fin.ext ?_, Fin.ext ?_⟩
  · show ((rowsR b).emb j 0).val % 128 = (j 0).val; rw [h0]; omega
  · show ((rowsR b).emb j 1).val = (j 1).val; rw [h1]; omega

/-- The result's buffer, held, is its blocks' rows, held. -/
theorem rows_of (c : Dev nD) (X : S512x512.Idx → Elt F .f32) :
    (ownsTc c outM fullShare X : sProp 𝕄) ⊢ bigSep Finset.univ fun b : Fin 4 => iprop(∃ Y, outOwn (F := F) c b Y) := by
  refine (owns_rects (c : Thread nD τ) outM fullShare rowsR (fun _ _ => rfl) rows_apart rows_cover X).trans (bigSep_mono fun b _ => ?_)
  exact exists_intro (Φ := fun Y => outOwn (F := F) c b Y) _
/-- The blocks' results are the result. -/
theorem of_rows (c : Dev nD) : (bigSep Finset.univ fun b : Fin 4 => outOwn c b (res m c b)) ⊢ (ownsTc c outM fullShare (outAt m c) : sProp 𝕄) := by
  haveI : ∀ e, Nonempty (Elt F e) := elt_nonempty
  have h : ∀ b ∈ (Finset.univ : Finset (Fin 4)), (outOwn c b (res m c b) : sProp 𝕄)
      ⊢ owns (c : Thread nD τ) (outM.slice (rowsR b) fun _ => rfl) fullShare (fun j => outAt m c ((rowsR b).emb j)) :=
    fun b _ => Entails.of_eq (congrArg _ (funext fun j => (outAt_rows m c b j).symm))
  exact (bigSep_mono h).trans (owns_of_rects (c : Thread nD τ) outM fullShare rowsR (fun _ _ => rfl) rows_apart rows_cover (outAt m c))

end Cert.KernelIdealProof

end
-- ==== Proof.KernelIdealBody.lean ====
/- The body's run as the launch asks for it: from what a device is dealt, its scratch buffers and its
   staged inputs, to its result staged and its semaphores at zero. -/
module

public import proofs.«01_k».proof.Proof.KernelIdealBuffers
public import proofs.«01_k».proof.Proof.Gen.KernelIdeal.Points

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device is dealt -/

/-- A product over the copies' semaphores, leg by leg: the senders' and the receivers'. -/
theorem over_J (P : J → sProp 𝕄) : bigSep Finset.univ P
    = bigSep Finset.univ fun l : Bool => iprop((bigSep Finset.univ fun b : Fin 4 => P (l, false, b)) ∗ bigSep Finset.univ fun b : Fin 4 => P (l, true, b)) := by
  rw [bigSep_univ_prod]
  exact bigSep_congr fun l _ => by rw [bigSep_univ_prod, over_legs]

/-- The tokens a device pays with, and its positions at its own cells. -/
def deal (c : Dev nD) : sProp 𝕄 :=
  iprop(atPos ER (barCell c) 0 ∅ 0 ∗ bigSep Finset.univ fun l : Bool => iprop(dutyTok ER (barCell (peer l c)) 0 l
    ∗ (bigSep Finset.univ fun b : Fin 4 => toSend (F := F) c l b) ∗ bigSep Finset.univ fun b : Fin 4 => atPos ER (xcell c (l, true, b)) 0 ∅ 0))
/-- The credits its waits take: two units on its barrier, and a copy's on each receiving semaphore. -/
def credits (c : Dev nD) : sProp 𝕄 :=
  iprop(cred (tallyAt (barCell c) () 2) ∗ bigSep Finset.univ fun l : Bool => bigSep Finset.univ fun b : Fin 4 => cred (tallyAt (xcell c (l, true, b)) () N))
/-- What it starts from, its buffers aside. -/
def start (c : Dev nD) : sProp 𝕄 :=
  iprop((∃ κs : Dev nD × Option J → ℕ, iprop(records m κs ∗ deal (F := F) c)) ∗ credits (F := F) c ∗ levAts L lv)
/-- Its scratch buffers, at any contents. -/
abbrev scratch (c : Dev nD) : sProp 𝕄 := Pipeline.scopedRest (Ix := Unit) (Name := ℕ) (U := UU) (Lvl := ℕ) (Val := Elt F) spec0 c
/-- Its semaphores, all at zero. -/
def zeroed (c : Dev nD) : sProp 𝕄 := iprop((bigSep Finset.univ fun j : J => semVal (xcell c j) 0) ∗ semVal (barCell c) 0)

/-! ## Before and after the body -/

/-- A held buffer is the whole of it, held at some contents, -/
theorem whole_any (c : Dev nD) (b : Ref sig .tc) :
    (iprop(∃ f : Buf (Elt F) ((c : Thread nD τ).loc b), ((c : Thread nD τ).loc b) ↦{fullShare} f) : sProp 𝕄)
      ⊢ iprop(∃ X : b.ty.Contents (Elt F), ownsTc c (Memref.whole b) fullShare X) := by
  simp only [owns_whole]; exact .rfl
/-- and back. -/
theorem any_whole (c : Dev nD) (b : Ref sig .tc) :
    (iprop(∃ X : b.ty.Contents (Elt F), ownsTc c (Memref.whole b) fullShare X) : sProp 𝕄)
      ⊢ iprop(∃ f : Buf (Elt F) ((c : Thread nD τ).loc b), ((c : Thread nD τ).loc b) ↦{fullShare} f) := by
  simp only [owns_whole]; exact .rfl
/-- A held buffer of four slots is its slots, at any contents. -/
theorem any_slots (c : Dev nD) {e : EltTy} (M : Memref sig .tc .vmem S4x128x512 e) :
    (iprop(∃ X, ownsTc c M fullShare X) : sProp 𝕄) ⊢ bigSep Finset.univ fun b : Fin 4 => slotAny (F := F) c M b := by
  iintro ⟨%X, H⟩; iapply (slots_of c M X); iexact H

/-- What the body starts with. -/
theorem has_intro (c : Dev nD) :
    iprop(inputs m c ∗ (∃ X, ownsTc c outM fullShare X) ∗ deal (F := F) c ∗ credits (F := F) c ∗ scratch (F := F) c) ⊢ bodyHas m c := by
  unfold scratch
  rw [scopedRest0_eq]
  unfold bodyHas deal credits fresh toRecv wtsAny
  simp only [over_legs]
  simp only [bigSep_sep']
  iintro ⟨Hi, ⟨%X, HX⟩, ⟨Hp, ⟨HdA, HsA, HrA⟩, HdB, HsB, HrB⟩, ⟨Hc, HcA, HcB⟩, H0, H1, H2, H3, H4, H5, H6, H7⟩
  isplitl [Hi]; · iexact Hi
  isplitl [H0 H1 H2]
  · isplitl [H0]; · iapply (whole_any (F := F) c cc0_scratch0); iexact H0
    isplitl [H1]; · iapply (whole_any (F := F) c cc0_scratch1); iexact H1
    iapply (whole_any (F := F) c cc0_scratch2); iexact H2
  isplitl [Hc Hp]
  · isplitl [Hc] <;> iassumption
  isplitl [HdA HdB H6 H7]
  · isplitl [HdA H6]
    · isplitl [HdA]; · iexact HdA
      iapply (any_slots (F := F) c rAM); iapply (whole_any (F := F) c cc0_scratch6); iexact H6
    · isplitl [HdB]; · iexact HdB
      iapply (any_slots (F := F) c rBM); iapply (whole_any (F := F) c cc0_scratch7); iexact H7
  isplitl [H3]; · iapply (any_slots (F := F) c accM); iapply (whole_any (F := F) c cc0_scratch3); iexact H3
  isplitl [H4]; · iapply (any_slots (F := F) c sAM); iapply (whole_any (F := F) c cc0_scratch4); iexact H4
  isplitl [H5]; · iapply (any_slots (F := F) c sBM); iapply (whole_any (F := F) c cc0_scratch5); iexact H5
  isplitl [HX]; · iapply (rows_of (F := F) c X); iexact HX
  isplitl [HsA]; · iexact HsA
  isplitl [HsB]; · iexact HsB
  isplitl [HcA HrA]
  · isplitl [HcA] <;> iassumption
  · isplitl [HcB] <;> iassumption

/-- What it leaves. -/
theorem leaves_elim (c : Dev nD) :
    bodyLeaves m c ⊢ iprop(inputs m c ∗ ownsTc c outM fullShare (outAt m c) ∗ scratch (F := F) c ∗ zeroed (F := F) c) := by
  unfold scratch
  rw [scopedRest0_eq]
  unfold bodyLeaves finished zeroed wts
  rw [over_J]
  simp only [over_legs]
  simp only [bigSep_sep']
  iintro ⟨Hi, ⟨H0, H1, H2⟩, Hb, H3, H4, H5, H6, H7, Ho, Z1, Z2, Z3, Z4⟩
  isplitl [Hi]; · iexact Hi
  isplitl [Ho]; · iapply (of_rows m c); iexact Ho
  isplitl [H0 H1 H2 H3 H4 H5 H6 H7]
  · isplitl [H0]; · iapply (any_whole (F := F) c cc0_scratch0); iexists _; iexact H0
    isplitl [H1]; · iapply (any_whole (F := F) c cc0_scratch1); iexists _; iexact H1
    isplitl [H2]; · iapply (any_whole (F := F) c cc0_scratch2); iexists _; iexact H2
    isplitl [H3]; · iapply (any_whole (F := F) c cc0_scratch3); iapply (of_slots (F := F) c accM); iexact H3
    isplitl [H4]; · iapply (any_whole (F := F) c cc0_scratch4); iapply (of_slots (F := F) c sAM); iexact H4
    isplitl [H5]; · iapply (any_whole (F := F) c cc0_scratch5); iapply (of_slots (F := F) c sBM); iexact H5
    isplitl [H6]; · iapply (any_whole (F := F) c cc0_scratch6); iapply (of_slots (F := F) c rAM); iexact H6
    iapply (any_whole (F := F) c cc0_scratch7); iapply (of_slots (F := F) c rBM); iexact H7
  isplitr [Hb]
  · isplitl [Z1 Z3]
    · isplitl [Z1] <;> iassumption
    · isplitl [Z2] <;> iassumption
  · iexact Hb

/-! ## The pipeline's one point -/

/-- What is held before the point, -/
def before (c : Dev nD) : sProp 𝕄 := iprop(start m c ∗ scratch (F := F) c)
/-- and after it. -/
def after (c : Dev nD) : sProp 𝕄 := iprop(scratch (F := F) c ∗ zeroed (F := F) c)

/-- The windows' contents, what is held, and what is owed, before the point and after it. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => w1stg m c
    | ⟨2, _⟩ => w2stg m c
    | ⟨3, _⟩ => outAt m c
  Φ t := match t with
    | ⟨0, _⟩ => before m c
    | ⟨_ + 1, _⟩ => after (F := F) c
  q _ := fullShare
  owed t := match t with
    | ⟨0, _⟩ => owed c debts
    | ⟨_ + 1, _⟩ => owed c []

/-- A buffer held whole at contents `X`. -/
abbrev staged (c : Dev nD) (b : Ref sig .tc) (X : b.ty.Contents (Elt F)) : sProp 𝕄 := ownsTc c (Memref.whole b) fullShare X

/-- What the body is handed at the point, -/
def pre (c : Dev nD) : sProp 𝕄 :=
  iprop(before m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ ∃ d, staged c cc0_stg3_0 ((dats m 0 c).before (3 : Fin 4) t0_0 d))
/-- and what it hands back. -/
def post (c : Dev nD) : sProp 𝕄 :=
  iprop(after (F := F) c ∗ (dats m 0 c).owesAt () t0_0.succ
    ∗ staged c cc0_stg0_0 (xstg m c) ∗ staged c cc0_stg1_0 (w1stg m c) ∗ staged c cc0_stg2_0 (w2stg m c) ∗ staged c cc0_stg3_0 (outAt m c))

/-- The staged inputs are what the windows read. -/
theorem staged_x (c : Dev nD) (d) : (dats m 0 c).before (0 : Fin 4) t0_0 d = xstg m c := by
  unfold Dat.before; rw [if_pos (fetch0_0 t0_0)]; rfl
/-- So for the first weight, -/
theorem staged_w1 (c : Dev nD) (d) : (dats m 0 c).before (1 : Fin 4) t0_0 d = w1stg m c := by
  unfold Dat.before; rw [if_pos (fetch0_1 t0_0)]; rfl
/-- and for the second. -/
theorem staged_w2 (c : Dev nD) (d) : (dats m 0 c).before (2 : Fin 4) t0_0 d = w2stg m c := by
  unfold Dat.before; rw [if_pos (fetch0_2 t0_0)]; rfl

/-- The printed body at the point. -/
theorem point_spec (c : Dev nD) : pre m c ⊢ runs c printed fun _ => post m c := by
  rw [printed_eq]
  unfold pre before start
  simp only [staged_x, staged_w1, staged_w2]
  unfold Dat.owesAt Pipeline.owesWithin
  iintro ⟨⟨⟨⟨%κs, #HR, Hd⟩, Hc, #HL⟩, Hs⟩, ⟨%W, -, HO⟩, ⟨%d0, H0⟩, ⟨%d1, H1⟩, ⟨%d2, H2⟩, ⟨%d3, H3⟩⟩
  iapply (runs_use (body_spec m κs c) (post m c)) $$ [Hd Hc Hs HO H0 H1 H2 H3]
  · isplitr; · iexact HR
    isplitr; · iexact HL
    isplitl [HO]; · unfold owing; iexists W; iexact HO
    iapply (has_intro m c)
    isplitl [H0 H1 H2]
    · unfold inputs
      isplitl [H0]; · iexact H0
      isplitl [H1] <;> iassumption
    isplitl [H3]; · iexists _; iexact H3
    isplitl [Hd]; · iexact Hd
    isplitl [Hc] <;> iassumption
  iintro ⟨HO, Hl⟩
  ihave Hl' := (leaves_elim m c) $$ Hl
  unfold inputs owing post after Dat.owesAt Pipeline.owesWithin
  icases Hl' with ⟨⟨H0, H1, H2⟩, Ho, Hs, Hz⟩
  icases HO with ⟨%W', HO⟩
  isplitl [Hs Hz]
  · isplitl [Hs] <;> iassumption
  isplitl [HO]
  · iexists W'
    isplitr; · ipureintro; exact fun _ _ => Or.inl trivial
    iexact HO
  isplitl [H0]; · iexact H0
  isplitl [H1]; · iexact H1
  isplitl [H2] <;> iassumption

set_option maxRecDepth 8000 in
/-- The body meets the pipeline's obligation on every device. -/
theorem body_obligation (c : Dev nD) : BodyObligation (dats (F := F) m 0 c) (defs₀ (F := F)) 𝒱₀ () Set.univ := fun t => by
  rw [fin_N0 t]
  rw [bigSep_W0, bigSep_W0]
  exact point_spec m c

end Cert.KernelIdealProof

end
-- ==== Proof.KernelIdealLaunch.lean ====
/- The launch: the semaphores of all devices put under the schedule at once, the tokens and credits dealt
   out, and the run of the whole program. -/
module

public import proofs.«01_k».proof.Proof.KernelIdealBody
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- A copy's semaphore among those the call declares. -/
abbrev osem (j : J) : SemLoc sig := .dma (xsem j)
/-- They are distinct, and none is a window's. -/
theorem ownSemFacts : Pipeline.OwnSemFacts cfg0.spec osem := by decide

/-- Two copies' semaphores differ. -/
theorem xsem_inj {j j' : J} (h : xsem j = xsem j') : j = j' := by rw [← code_xsem j, h, code_xsem]

/-- Two cells differ in their device or in their place there. -/
theorem kcell_inj : Function.Injective kcell := by
  rintro ⟨c, k⟩ ⟨c', k'⟩ h
  have hc : c = c' := by
    have := congrArg (fun g : GSem nD τ sig => g.1.1) h
    rcases k with _ | j <;> rcases k' with _ | j' <;> exact this
  subst hc
  rcases k with _ | j <;> rcases k' with _ | j'
  · rfl
  · exact absurd (congrArg Prod.snd h) (fun e => by cases e)
  · exact absurd (congrArg Prod.snd h) (fun e => by cases e)
  · rw [xsem_inj (SemLoc.dma.inj (congrArg Prod.snd h))]
/-- Every cell of the schedule. -/
def allCells : Finset (GSem nD τ sig) := Finset.univ.map ⟨kcell, kcell_inj⟩

/-- The cell of a token: of a partner's signal on a leg, or of a copy; -/
abbrev tokCell (t : Bool ⊕ J) : Option J := match t with | .inl _ => none | .inr j => some j
/-- and its name there. -/
abbrev tokName (t : Bool ⊕ J) : Bool := match t with | .inl l => l | .inr _ => false
/-- A token as the cell, the round and the name it pays under. -/
abbrev tokOf (x : Dev nD × (Bool ⊕ J)) : GSem nD τ sig × ℕ × Bool := (kcell (x.1, tokCell x.2), 0, tokName x.2)
/-- A token is told by its cell and its name, -/
theorem tok_inj {t t' : Bool ⊕ J} (hc : tokCell t = tokCell t') (hn : tokName t = tokName t') : t = t' := by
  rcases t with l | j <;> rcases t' with l' | j'
  · exact congrArg Sum.inl hn
  · exact absurd hc (fun e => by cases e)
  · exact absurd hc (fun e => by cases e)
  · exact congrArg Sum.inr (Option.some.inj hc)
/-- and so over all devices. -/
theorem tokOf_inj : Function.Injective tokOf := fun x x' h =>
  have h1 := kcell_inj (congrArg Prod.fst h)
  Prod.ext (Prod.mk.inj h1).1 (tok_inj (Prod.mk.inj h1).2 (congrArg (fun x : GSem nD τ sig × ℕ × Bool => x.2.2) h))
/-- Every token. -/
def allToks : Finset (GSem nD τ sig × ℕ × Bool) := Finset.univ.map ⟨tokOf, tokOf_inj⟩

/-- The ghost state at the start. -/
def u₀ : UU :=
  (initOf (Pipeline.cells cfgs cellOf_inj) (Pipeline.launchToks cfgs cellOf_inj), initOf allCells allToks)

/-- The tokens of a device's own cells. -/
def toks (c : Dev nD) : sProp 𝕄 :=
  bigSep Finset.univ fun l : Bool => iprop(dutyTok ER (barCell c) 0 l
    ∗ (bigSep Finset.univ fun b : Fin 4 => dutyTok ER (xcell c (l, false, b)) 0 false)
    ∗ bigSep Finset.univ fun b : Fin 4 => dutyTok ER (xcell c (l, true, b)) 0 false)

/-- What a device holds of the schedule at first, -/
def G (c : Dev nD) : sProp 𝕄 :=
  iprop((bigSep Finset.univ fun k : Option J => roundState ER (Rd m) (kcell (c, k)) 0)
    ∗ (bigSep Finset.univ fun k : Option J => iprop(atPos ER (kcell (c, k)) 0 ∅ 0 ∗ reached ER (kcell (c, k)) 0)) ∗ toks (F := F) c)
/-- and once the cells are set up. -/
def G' (c : Dev nD) : sProp 𝕄 := iprop(∃ κs : Dev nD × Option J → ℕ, iprop(records m κs ∗ deal (F := F) c))

/-- A product over a device's cells: the barrier's and the copies'. -/
theorem over_cells (P : Option J → sProp 𝕄) : bigSep Finset.univ P = iprop(P none ∗ bigSep Finset.univ fun j : J => P (some j)) := by
  rw [bigSep_univ_equiv (Equiv.optionEquivSumPUnit.{0} J).symm P, bigSep_univ_sum, Finset.univ_unique (α := PUnit), bigSep_singleton]
  exact BI.Entails.antisymm
    (show iprop((bigSep Finset.univ fun j : J => P (some j)) ∗ P none) ⊢ iprop(P none ∗ bigSep Finset.univ fun j : J => P (some j)) from by
      iintro ⟨H, H'⟩; isplitl [H'] <;> iassumption)
    (show iprop(P none ∗ bigSep Finset.univ fun j : J => P (some j)) ⊢ iprop((bigSep Finset.univ fun j : J => P (some j)) ∗ P none) from by
      iintro ⟨H, H'⟩; isplitl [H'] <;> iassumption)

/-- It gives every device its cells' positions and tokens. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option J => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks
    rw [bigSep_map, bigSep_univ_prod]
    refine bigSep_congr fun c _ => ?_
    unfold toks
    rw [bigSep_univ_sum, over_J, bigSep_sep', bigSep_sep', bigSep_sep']
    rfl
  iintro H
  imod (Rounds.fund ER (Rd m) allCells allToks) $$ H with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## Setting up the cells -/

/-- The one semaphore that outlives the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores, at zero, put under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option J => iprop(∃ κ : ℕ, cellInv ER (Rd m) κ (kcell (c, k))))
          ∗ (bigSep Finset.univ fun k : Option J => iprop(atPos ER (kcell (c, k)) 0 ∅ 0 ∗ reached ER (kcell (c, k)) 0)) ∗ toks (F := F) c) := by
  unfold G Pipeline.ownSems0
  rw [unscopedSems0_eq]
  iintro ⟨Ho, Hu, Hst, Hat, Htok⟩
  ihave Hv := (Entails.of_eq (over_cells (F := F) fun k => semVal (kcell (c, k)) 0).symm) $$ [Ho Hu]
  · isplitl [Hu] <;> iassumption
  imod (show iprop((bigSep Finset.univ fun k : Option J => semVal (kcell (c, k)) 0) ∗ bigSep Finset.univ fun k : Option J => roundState ER (Rd m) (kcell (c, k)) 0)
      ⊢ (|={Set.univ}=> bigSep Finset.univ fun k : Option J => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat] <;> iassumption

/-- Over all devices and legs, what is said of each device is said of each device's partner. -/
theorem around (P : Bool → Dev nD → sProp 𝕄) :
    (bigSep Finset.univ fun c : Dev nD => bigSep Finset.univ fun l : Bool => P l c)
      = bigSep Finset.univ fun c : Dev nD => bigSep Finset.univ fun l : Bool => P l (peer l c) := by
  rw [BI.bigSep_univ_comm, BI.bigSep_univ_comm (fun (c : Dev nD) (l : Bool) => P l (peer l c))]
  exact bigSep_congr fun l _ => bigSep_univ_equiv (pairing l) (P l)

/-- The tokens dealt to those who pay with them, beside the positions. -/
theorem deal_intro :
    iprop((bigSep Finset.univ fun c : Dev nD => bigSep Finset.univ fun k : Option J => atPos ER (kcell (c, k)) 0 ∅ 0)
        ∗ bigSep Finset.univ fun c : Dev nD => toks (F := F) c)
      ⊢ (bigSep Finset.univ fun c : Dev nD => deal (F := F) c : sProp 𝕄) := by
  unfold toks deal toSend
  simp only [over_cells, over_J]
  simp only [bigSep_sep']
  rw [around (F := F) fun l c => dutyTok ER (barCell c) 0 l,
    around (F := F) fun l c => bigSep Finset.univ fun b : Fin 4 => dutyTok ER (xcell c (l, true, b)) 0 false]
  iintro ⟨⟨Hb, HS, HR⟩, TB, TS, TR⟩
  isplitl [Hb]; · iexact Hb
  isplitl [TB]; · iexact TB
  isplitr [HR]
  · isplitl [TS]; · iexact TS
    isplitl [TR] <;> iassumption
  · iexact HR

/-- A persistent fact goes with every factor of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From what each device holds of its own cells to what each pays with and waits at. -/
theorem regroup :
    (bigSep Finset.univ fun c : Dev nD => iprop((bigSep Finset.univ fun k : Option J => iprop(∃ κ : ℕ, cellInv ER (Rd m) κ (kcell (c, k))))
          ∗ (bigSep Finset.univ fun k : Option J => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Option J => iprop(∃ κ : ℕ, cellInv ER (Rd m) κ (kcell ck))),
    bigSep_congr (s := Finset.univ) (fun (c : Dev nD) _ => bigSep_sep' Finset.univ (fun k : Option J => (atPos ER (kcell (c, k)) 0 ∅ 0 : sProp 𝕄)) (fun k => reached ER (kcell (c, k)) 0)),
    bigSep_sep', ← bigSep_univ_prod (fun ck : Dev nD × Option J => (reached ER (kcell ck) 0 : sProp 𝕄))]
  iintro ⟨HI, ⟨Hat, #HR⟩, Htok⟩
  ihave HK := (BI.bigSep_exists_pi Finset.univ (fun (ck : Dev nD × Option J) (κ : ℕ) => (cellInv ER (Rd m) κ (kcell ck) : sProp 𝕄))) $$ HI
  icases HK with ⟨%κs, #HI⟩
  iapply (with_persistent (R := records m κs) (Φ := fun c => deal (F := F) c) fun c _ => by
    unfold G'; exact exists_intro (Φ := fun κs => iprop(records m κs ∗ deal (F := F) c)) κs)
  isplitr
  · unfold records; isplitl; · iexact HI
    iexact HR
  · iapply (deal_intro (F := F))
    isplitl [Hat] <;> iassumption

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credit of what a device's partners owe it. -/
def owedTo (c : Dev nD) : List Debt → sProp 𝕄
  | [] => iprop(emp)
  | j :: js => iprop(owedTo c js ∗ cred (tallyAt (debtAt c j) () (amt j)))

/-- What all devices owe is, to each, what its partners owe it. -/
theorem owed_credit (c : Dev nD) (js : List Debt) : (Pipeline.launchCred (fun d => owed d js) c : sProp 𝕄) ⊢ owedTo c js := by
  induction js with
  | nil => exact Entails.of_eq (Pipeline.launchCred_zero c)
  | cons j js ih =>
    refine (Entails.of_eq (Pipeline.launchCred_add (fun d => owed d js) (fun d => tallyAt (debtAt (peer j.1 d) j) () (amt j)) c)).trans
      (BIClass.sep_mono ih ?_)
    obtain ⟨l, o⟩ := j
    cases o with
    | none => exact Pipeline.launchCred_tallyAt _ (peer l) (peer l) (peer_peer l) (peer_peer l) () _ c
    | some b => exact Pipeline.launchCred_tallyAt _ (peer l) (peer l) (peer_peer l) (peer_peer l) () _ c

/-- At the start these are the credits of its waits. -/
theorem credits_intro (c : Dev nD) : (Pipeline.launchCred (fun d => owed d debts) c : sProp 𝕄) ⊢ credits (F := F) c := by
  refine (owed_credit c debts).trans ?_
  have h2 : (iprop(cred (tallyAt (barCell c) () 1) ∗ cred (tallyAt (barCell c) () 1)) : sProp 𝕄) ⊢ cred (tallyAt (barCell c) () 2) := by
    rw [show tallyAt (barCell c) () 2 = tallyAt (barCell c) () 1 + tallyAt (barCell c) () 1 from (tallyAt_add _ _ 1 1).symm]
    exact (cred_add _ _).2
  unfold credits
  simp only [over_legs, over_blocks]
  simp only [debts, debtsX, debtsB, owedTo, amt]
  iintro ⟨⟨⟨⟨⟨⟨⟨⟨⟨⟨-, B3⟩, B2⟩, B1⟩, B0⟩, A3⟩, A2⟩, A1⟩, A0⟩, H'⟩, H⟩
  isplitl [H H']
  · iapply h2; isplitl [H] <;> iassumption
  isplitl [A0 A1 A2 A3]
  · isplitl [A0]; · iexact A0
    isplitl [A1]; · iexact A1
    isplitl [A2] <;> iassumption
  · isplitl [B0]; · iexact B0
    isplitl [B1]; · iexact B1
    isplitl [B2] <;> iassumption

/-! ## The run -/

/-- Every window's array is held whole. -/
theorem share_eq (c : Dev nD) (w : Fin cfg0.W) : (dats m 0 c).share w = fullShare := by unfold Dat.share; split <;> rfl

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred (fun d => owed d debts) c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

/-- With its scratch buffers that is what is held before the point. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs] <;> iassumption

/-- What is held after the point gives the semaphores back at zero. -/
theorem after_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after (F := F) c from rfl, unscopedSems0_eq]
  unfold after zeroed Pipeline.ownSems0
  iintro ⟨Hs, Hj, Hb⟩
  isplitl [Hb]; · iexact Hb
  isplitl [Hj] <;> iassumption

/-- Every wait of the pipeline lies below what is still owed. -/
theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () ≤ 0 := by fin_cases w <;> fin_cases s <;> exact Nat.le_refl 0
    have hp : ∀ j ∈ debts, 0 < level j := by decide
    rcases t with ⟨_ | _, ht⟩
    · exact mayWait c _ debts 0 h0 hp
    · exact mayWait c _ [] 0 h0 (fun j hj => absurd hj List.not_mem_nil)

/-- What each window's array holds at the end. -/
def finalA (c : Dev nD) (w : Fin cfg0.W) : Buf (Elt F) ((cfg0.win w).arr.view.loc (c : Thread nD τ)) := (dats m 0 c).arrAt w cfg0.N

set_option maxRecDepth 8000 in
/-- Every weakly fair execution from zero counters ends, with every array as computed and every semaphore at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owed d debts) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.KernelIdealFinal.lean ====
/- What the run leaves in the arrays: the arguments as they were, and the result as computed. -/
module

public import proofs.«01_k».proof.Proof.KernelIdealLaunch
public import Idealize.ShloMosaic.Lib.Pipeline.ValueKit

@[expose] public section

set_option maxRecDepth 16384

noncomputable section

namespace Cert.KernelIdealProof

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The three arguments end as they began. -/
theorem finalA_x (c : Dev nD) : finalA m c (0 : Fin 4) = m ((c : Thread nD τ).loc main_arg0) := (dats m 0 c).arrAt_in (0 : Fin 4) rfl _
/-- So does the first weight, -/
theorem finalA_w1 (c : Dev nD) : finalA m c (1 : Fin 4) = m ((c : Thread nD τ).loc main_arg1) := (dats m 0 c).arrAt_in (1 : Fin 4) rfl _
/-- and the second. -/
theorem finalA_w2 (c : Dev nD) : finalA m c (2 : Fin 4) = m ((c : Thread nD τ).loc main_arg2) := (dats m 0 c).arrAt_in (2 : Fin 4) rfl _
/-- The result array ends at the computed rows. -/
theorem finalA_out (c : Dev nD) : finalA m c (3 : Fin 4) = outAt m c := by
  unfold finalA
  refine (dats m 0 c).arrAt_eq_of_after_last (3 : Fin 4) t0_0 (by decide +kernel) _ fun j => ?_
  blk_simp
  rfl

/-- The one block of each argument is its first. -/
theorem first : win0_0.index (0 : Fin 1) = ![0, 0] ∧ win0_1.index (0 : Fin 1) = ![0, 0] ∧ win0_2.index (0 : Fin 1) = ![0, 0] := by decide +kernel
/-- What is staged is the whole argument. -/
theorem xstg_eq (c : Dev nD) : xstg m c = m ((c : Thread nD τ).loc main_arg0) := by
  blk_ext! [xstg, first]
/-- So for the first weight, -/
theorem w1stg_eq (c : Dev nD) : w1stg m c = m ((c : Thread nD τ).loc main_arg1) := by
  blk_ext! [w1stg, first]
/-- and for the second. -/
theorem w2stg_eq (c : Dev nD) : w2stg m c = m ((c : Thread nD τ).loc main_arg2) := by
  blk_ext! [w2stg, first]

/-- The run as a statement of the three arguments, the result and the counters. -/
theorem run_final : θ_run defs (onTc (τ := τ) (main (F := F))) ⟨m, fun _ => 0, ρ⟩
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (finalA_out m c), (h.1 c (0 : Fin 4)).trans (finalA_x m c),
    (h.1 c (1 : Fin 4)).trans (finalA_w1 m c), (h.1 c (2 : Fin 4)).trans (finalA_w2 m c)⟩, h.2⟩) (run_main m ρ)

end Cert.KernelIdealProof

end
-- ==== Proof.Value.lean ====
/- The mathematics: the four devices' partial products add up to the whole product. -/
module

public import proofs.«01_k».proof.Proof.KernelIdealFinal
public import proofs.«01_k».proof.Proof.Gen.ReferenceIdeal
public import Idealize.ShloMosaic.Lib.Pointwise
public import Idealize.ShloMosaic.Lib.LayoutAt

@[expose] public section

set_option maxRecDepth 16384

noncomputable section

namespace Cert.KernelIdealProof

open Cert.KernelIdeal Cert.KernelIdeal.Gen
open Idealize.ShloMosaic Idealize.ShloMosaic.TcCoe Idealize.SL.Sem

variable (m : (ℓ : Loc nD τ sig) → Buf (Elt Ideal) ℓ)

/-- An element of the product `relu (x @ w1) @ w2` over `n` hidden columns. -/
def prod {n : ℕ} (x : FVec Ideal S512x512 .f32) (w1 : FVec Ideal ⟨2, ![512, n]⟩ .f32) (w2 : FVec Ideal ⟨2, ![n, 512]⟩ .f32) (i j : Fin 512) : EReal :=
  ∑ k : Fin n, max (∑ d : Fin 512, x (ix2 i d) * w1 (ix2 d k)) 0 * w2 (ix2 k j)

/-- A row's place in its block is the row. -/
theorem emb_within (i : S512x512.Idx) (d : Fin 512) : (rowsR (blockOf i)).emb (ix2 (within i 0) d) = ix2 (i 0) d := by
  have h0 : ((rowsR (blockOf i)).emb (ix2 (within i 0) d) 0).val = 128 * ((i 0).val / 128) + 1 * ((i 0).val % 128) := rfl
  have h1 : ((rowsR (blockOf i)).emb (ix2 (within i 0) d) 1).val = 0 + 1 * d.val := rfl
  funext a
  revert a
  rw [show (∀ a : Fin S512x512.rank, _) ↔ ∀ a : Fin 2, _ from Iff.rfl, Fin.forall_fin_two]
  refine ⟨Fin.ext (h0.trans ?_), Fin.ext (h1.trans ?_)⟩
  · show _ = (i 0).val; omega
  · show _ = d.val; omega

/-- A device's partial product, element by element. -/
theorem own_at (c : Dev nD) (i : S512x512.Idx) :
    own m c (blockOf i) (within i) = prod (n := 1024) (m ((c : Thread nD τ).loc main_arg0)) (m ((c : Thread nD τ).loc main_arg1)) (m ((c : Thread nD τ).loc main_arg2)) (i 0) (i 1) := by
  unfold own part castX castW1 castW2
  rw [xstg_eq, w1stg_eq, w2stg_eq]
  pointwise [prod]
  simp only [emb_within]
  rfl

/-- A device, its partner, its second partner and that one's partner are the four devices. -/
theorem sum_peers (f : Dev nD → EReal) (c : Dev nD) :
    f c + f (peer false c) + (f (peer true c) + f (peer false (peer true c))) = ∑ e : Fin 4, f e := by
  have hn : ([c, peer false c, peer true c, peer false (peer true c)] : List (Fin 4)).Nodup := by revert c; decide
  have hu : ([c, peer false c, peer true c, peer false (peer true c)] : List (Fin 4)).toFinset = Finset.univ := by revert c; decide
  rw [← hu, List.sum_toFinset f hn]
  simp only [List.map_cons, List.map_nil, List.sum_cons, List.sum_nil, add_zero, add_assoc]

/-- The result's element is the sum of the four devices' partial products, in whichever order they were added. -/
theorem out_at (c : Dev nD) (i : S512x512.Idx) : outAt m c i = ∑ e : Fin 4, own m e (blockOf i) (within i) := by
  have h : outAt m c i = own m c (blockOf i) (within i) + own m (peer false c) (blockOf i) (within i)
      + (own m (peer true c) (blockOf i) (within i) + own m (peer false (peer true c)) (blockOf i) (within i)) := by
    unfold outAt res val pair plus narrow
    pointwise []
  exact h.trans (sum_peers (fun e => own m e (blockOf i) (within i)) c)

/-- A product over the whole hidden dimension is the sum of those over its four parts. -/
theorem prod_parts (x : FVec Ideal S512x512 .f32) (w1 : FVec Ideal ⟨2, ![512, 4096]⟩ .f32) (w2 : FVec Ideal ⟨2, ![4096, 512]⟩ .f32) (i j : Fin 512) :
    prod (n := 4096) x w1 w2 i j = ∑ e : Fin 4, prod (n := 1024) x (Layout.block ⟨2, ![512, 1024]⟩ ⟨2, ![512, 4096]⟩ 1 4 e w1)
      (Layout.block ⟨2, ![1024, 512]⟩ ⟨2, ![4096, 512]⟩ 0 4 e w2) i j := by
  unfold prod
  rw [← Fintype.sum_prod_type', ← (finProdFinEquiv (m := 4) (n := 1024)).sum_comp]
  refine Finset.sum_congr rfl fun q _ => ?_
  have h1 : ∀ d : Fin 512, Layout.block ⟨2, ![512, 1024]⟩ ⟨2, ![512, 4096]⟩ 1 4 q.1 w1 (by decide) (ix2 d q.2) = w1 (ix2 d (finProdFinEquiv q)) := fun d => by
    have : (finProdFinEquiv q).val = q.2.val + 1024 * q.1.val := rfl
    shard_ext
  have h2 : Layout.block ⟨2, ![1024, 512]⟩ ⟨2, ![4096, 512]⟩ 0 4 q.1 w2 (by decide) (ix2 q.2 j) = w2 (ix2 (finProdFinEquiv q) j) := by
    have : (finProdFinEquiv q).val = q.2.val + 1024 * q.1.val := rfl
    shard_ext
  simp only [h1, h2]

/-- The reference's result, of whole arrays. -/
def whole (x : FVec Ideal S512x512 .f32) (w1 : FVec Ideal ⟨2, ![512, 4096]⟩ .f32) (w2 : FVec Ideal ⟨2, ![4096, 512]⟩ .f32) : FVec Ideal S512x512 .f32 :=
  fun i => prod (n := 4096) x w1 w2 (i 0) (i 1)

/-- Where each device holds its part of the whole arrays, every device's result is the reference's. -/
theorem out_whole (x : FVec Ideal S512x512 .f32) (w1 : FVec Ideal ⟨2, ![512, 4096]⟩ .f32) (w2 : FVec Ideal ⟨2, ![4096, 512]⟩ .f32)
    (hx : ∀ c : Dev nD, m ((c : Thread nD τ).loc main_arg0) = x)
    (h1 : ∀ c : Dev nD, m ((c : Thread nD τ).loc main_arg1) = Layout.block ⟨2, ![512, 1024]⟩ ⟨2, ![512, 4096]⟩ 1 4 c w1)
    (h2 : ∀ c : Dev nD, m ((c : Thread nD τ).loc main_arg2) = Layout.block ⟨2, ![1024, 512]⟩ ⟨2, ![4096, 512]⟩ 0 4 c w2)
    (c : Dev nD) : outAt m c = whole x w1 w2 := by
  funext i
  refine (out_at m c i).trans (Eq.trans ?_ (prod_parts x w1 w2 (i 0) (i 1)).symm)
  have hs : ∀ e : Fin 4, (own m e (blockOf i) (within i) : EReal)
      = prod (n := 1024) x (Layout.block ⟨2, ![512, 1024]⟩ ⟨2, ![512, 4096]⟩ 1 4 e w1)
        (Layout.block ⟨2, ![1024, 512]⟩ ⟨2, ![4096, 512]⟩ 0 4 e w2) (i 0) (i 1) := fun e => by
    refine (own_at m e i).trans ?_
    rw [hx e, h1 e, h2 e]
  exact Finset.sum_congr (M := EReal) rfl fun e _ => hs e

end Cert.KernelIdealProof

end
-- ==== Proof.lean ====
/- The certificate: the three programs run and leave the machine quiet, and the idealized kernel's result is
   the reference's. -/
module

public import proofs.«01_k».proof.Defs
public import proofs.«01_k».proof.Proof.KernelFinal
public import proofs.«01_k».proof.Proof.Value
public import proofs.«01_k».proof.Proof.Gen.Kernel
public import proofs.«01_k».proof.Proof.Gen.KernelIdeal
public import proofs.«01_k».proof.Proof.Gen.ReferenceIdeal
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel ends, its arguments unchanged and every counter at zero. -/
theorem frame_Kernel : Cert.quiescent_Kernel := fun m g _ =>
  (θ_run Cert.Kernel.defs _ _).mono (fun _ h => ⟨fun c => (h.1 c).2, h.2⟩) (Cert.KernelProof.run_final (F := Bits) m g)

/-- So does the idealized kernel. -/
theorem frame_KernelIdeal : Cert.quiescent_KernelIdeal := fun m g _ =>
  (θ_run Cert.KernelIdeal.defs _ _).mono (fun _ h => ⟨fun c => (h.1 c).2, h.2⟩) (Cert.KernelIdealProof.run_final (F := Ideal) m g)

/-- And the reference. -/
theorem frame_ReferenceIdeal : Cert.quiescent_ReferenceIdeal := by
  intro m g _
  hlo_run
  · exact fun _ => ⟨trivial, trivial, trivial⟩
  · exact sem_eq_zero_of_no_sems (by decide) _

/-- The idealized kernel's result on every device is the reference's. -/
theorem algebraic : Cert.algebraic_KernelIdeal_ReferenceIdeal := by
  intro m g m' g' _ h
  refine ⟨_, (θ_run Cert.KernelIdeal.defs _ _).mono (fun _ r c => ⟨(r.1 c).1.trans
    (Cert.KernelIdealProof.out_whole m _ _ _ (fun c => (h c).1) (fun c => (h c).2.1) (fun c => (h c).2.2) c), (r.1 c).2⟩)
    (Cert.KernelIdealProof.run_final (F := Ideal) m g), ?_⟩
  hlo_run
  funext i
  pointwise [Cert.KernelIdealProof.whole, Cert.KernelIdealProof.prod]

/-- Every claim made of the programs. -/
theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
